-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S2x128x1024 : Shape := ⟨3, ![2, 128, 1024]⟩
abbrev S2x1024x1024 : Shape := ⟨3, ![2, 1024, 1024]⟩
abbrev S2048x1024 : Shape := ⟨2, ![2048, 1024]⟩
abbrev S2 : Shape := ⟨1, ![2]⟩
abbrev S16 : Shape := ⟨1, ![16]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x1024x1024 : Shape := ⟨3, ![1, 1024, 1024]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S4096x1024, .bf16⟩
  | .local _ .vmem, ⟨1, _⟩ => ⟨S2x128x1024, .f32⟩
  | .local _ .vmem, ⟨2, _⟩ => ⟨S2x1024x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_16 : BitVec 32 := 0#32
  let v27 : BitVec 1 := Scalar.cmpi .eq v2 c0_i32_16
  let v28 : BitVec 32 := Scalar.extui v27
  let c0_i32_17 : BitVec 32 := 0#32
  let v29 : BitVec 1 := Scalar.cmpi .ne v28 c0_i32_17
  v29

def k0_off1 (d0 : Dev nD) (c0_i32_218 : BitVec 32) : Fin 3 → Nat :=
  let c0_i32_219 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v161 : BitVec 32 := Scalar.addi v11 c0_i32_218
  let c1024_i32_224 : BitVec 32 := 1024#32
  ![0, v161.toNat, 1024]
def k0_dev3 (d0 : Dev nD) : Nat :=
  let c0_i32_246 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_245 : BitVec 32 := 8#32
  let v188 : BitVec 32 := Scalar.muli v9 c8_i32_245
  let v189 : BitVec 32 := Scalar.addi c0_i32_246 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_247 : BitVec 32 := 4#32
  let v190 : BitVec 32 := Scalar.muli v5 c4_i32_247
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v192 : BitVec 32 := Scalar.muli v8 c1_i32_248
  let v193 : BitVec 32 := Scalar.addi v191 v192
  v193.toNat
def k0_dev4 (d0 : Dev nD) : Nat :=
  let c0_i32_273 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_272 : BitVec 32 := 8#32
  let v220 : BitVec 32 := Scalar.muli v9 c8_i32_272
  let v221 : BitVec 32 := Scalar.addi c0_i32_273 v220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_274 : BitVec 32 := 4#32
  let v222 : BitVec 32 := Scalar.muli v5 c4_i32_274
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v224 : BitVec 32 := Scalar.muli v8 c1_i32_275
  let v225 : BitVec 32 := Scalar.addi v223 v224
  v225.toNat
def k0_dev5 (d0 : Dev nD) : Nat :=
  let c0_i32_301 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_300 : BitVec 32 := 8#32
  let v252 : BitVec 32 := Scalar.muli v9 c8_i32_300
  let v253 : BitVec 32 := Scalar.addi c0_i32_301 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v254 : BitVec 32 := Scalar.muli v5 c4_i32_302
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v256 : BitVec 32 := Scalar.muli v8 c1_i32_303
  let v257 : BitVec 32 := Scalar.addi v255 v256
  v257.toNat
def k0_dev6 (d0 : Dev nD) : Nat :=
  let c0_i32_329 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_328 : BitVec 32 := 8#32
  let v284 : BitVec 32 := Scalar.muli v9 c8_i32_328
  let v285 : BitVec 32 := Scalar.addi c0_i32_329 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_330 : BitVec 32 := 4#32
  let v286 : BitVec 32 := Scalar.muli v5 c4_i32_330
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v288 : BitVec 32 := Scalar.muli v8 c1_i32_331
  let v289 : BitVec 32 := Scalar.addi v287 v288
  v289.toNat
def k0_dev7 (d0 : Dev nD) : Nat :=
  let c0_i32_357 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_356 : BitVec 32 := 8#32
  let v316 : BitVec 32 := Scalar.muli v9 c8_i32_356
  let v317 : BitVec 32 := Scalar.addi c0_i32_357 v316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v318 : BitVec 32 := Scalar.muli v5 c4_i32_358
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v320 : BitVec 32 := Scalar.muli v8 c1_i32_359
  let v321 : BitVec 32 := Scalar.addi v319 v320
  v321.toNat
def k0_dev8 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v338 : BitVec 32 := Scalar.muli v2 c8_i32_376
  let v339 : BitVec 32 := Scalar.addi c0_i32_377 v338
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_378 : BitVec 32 := 4#32
  let v340 : BitVec 32 := Scalar.muli v10 c4_i32_378
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v342 : BitVec 32 := Scalar.muli v8 c1_i32_379
  let v343 : BitVec 32 := Scalar.addi v341 v342
  v343.toNat
def k0_dev9 (d0 : Dev nD) : Nat :=
  let c0_i32_405 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_404 : BitVec 32 := 8#32
  let v370 : BitVec 32 := Scalar.muli v9 c8_i32_404
  let v371 : BitVec 32 := Scalar.addi c0_i32_405 v370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v372 : BitVec 32 := Scalar.muli v5 c4_i32_406
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v374 : BitVec 32 := Scalar.muli v8 c1_i32_407
  let v375 : BitVec 32 := Scalar.addi v373 v374
  v375.toNat
def k0_dev10 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v392 : BitVec 32 := Scalar.muli v2 c8_i32_424
  let v393 : BitVec 32 := Scalar.addi c0_i32_425 v392
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_426 : BitVec 32 := 4#32
  let v394 : BitVec 32 := Scalar.muli v10 c4_i32_426
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v396 : BitVec 32 := Scalar.muli v8 c1_i32_427
  let v397 : BitVec 32 := Scalar.addi v395 v396
  v397.toNat
def k0_dev11 (d0 : Dev nD) : Nat :=
  let c0_i32_453 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_452 : BitVec 32 := 8#32
  let v424 : BitVec 32 := Scalar.muli v9 c8_i32_452
  let v425 : BitVec 32 := Scalar.addi c0_i32_453 v424
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_454 : BitVec 32 := 4#32
  let v426 : BitVec 32 := Scalar.muli v5 c4_i32_454
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v428 : BitVec 32 := Scalar.muli v8 c1_i32_455
  let v429 : BitVec 32 := Scalar.addi v427 v428
  v429.toNat
def k0_dev12 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v446 : BitVec 32 := Scalar.muli v2 c8_i32_472
  let v447 : BitVec 32 := Scalar.addi c0_i32_473 v446
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_474 : BitVec 32 := 4#32
  let v448 : BitVec 32 := Scalar.muli v10 c4_i32_474
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v450 : BitVec 32 := Scalar.muli v8 c1_i32_475
  let v451 : BitVec 32 := Scalar.addi v449 v450
  v451.toNat
def k0_dev13 (d0 : Dev nD) : Nat :=
  let c0_i32_501 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_500 : BitVec 32 := 8#32
  let v478 : BitVec 32 := Scalar.muli v9 c8_i32_500
  let v479 : BitVec 32 := Scalar.addi c0_i32_501 v478
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_502 : BitVec 32 := 4#32
  let v480 : BitVec 32 := Scalar.muli v5 c4_i32_502
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v482 : BitVec 32 := Scalar.muli v8 c1_i32_503
  let v483 : BitVec 32 := Scalar.addi v481 v482
  v483.toNat
def k0_dev14 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v500 : BitVec 32 := Scalar.muli v2 c8_i32_520
  let v501 : BitVec 32 := Scalar.addi c0_i32_521 v500
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_522 : BitVec 32 := 4#32
  let v502 : BitVec 32 := Scalar.muli v10 c4_i32_522
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v504 : BitVec 32 := Scalar.muli v8 c1_i32_523
  let v505 : BitVec 32 := Scalar.addi v503 v504
  v505.toNat
def k0_dev15 (d0 : Dev nD) : Nat :=
  let c0_i32_549 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_548 : BitVec 32 := 8#32
  let v532 : BitVec 32 := Scalar.muli v9 c8_i32_548
  let v533 : BitVec 32 := Scalar.addi c0_i32_549 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_550 : BitVec 32 := 4#32
  let v534 : BitVec 32 := Scalar.muli v5 c4_i32_550
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_551 : BitVec 32 := 1#32
  let v536 : BitVec 32 := Scalar.muli v8 c1_i32_551
  let v537 : BitVec 32 := Scalar.addi v535 v536
  v537.toNat
def k0_dev16 (d0 : Dev nD) : Nat :=
  let c0_i32_569 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_568 : BitVec 32 := 8#32
  let v554 : BitVec 32 := Scalar.muli v2 c8_i32_568
  let v555 : BitVec 32 := Scalar.addi c0_i32_569 v554
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_570 : BitVec 32 := 4#32
  let v556 : BitVec 32 := Scalar.muli v10 c4_i32_570
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_571 : BitVec 32 := 1#32
  let v558 : BitVec 32 := Scalar.muli v8 c1_i32_571
  let v559 : BitVec 32 := Scalar.addi v557 v558
  v559.toNat
def k0_dev17 (d0 : Dev nD) : Nat :=
  let c0_i32_597 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_596 : BitVec 32 := 8#32
  let v586 : BitVec 32 := Scalar.muli v9 c8_i32_596
  let v587 : BitVec 32 := Scalar.addi c0_i32_597 v586
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_598 : BitVec 32 := 4#32
  let v588 : BitVec 32 := Scalar.muli v5 c4_i32_598
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_599 : BitVec 32 := 1#32
  let v590 : BitVec 32 := Scalar.muli v8 c1_i32_599
  let v591 : BitVec 32 := Scalar.addi v589 v590
  v591.toNat
def k0_dev18 (d0 : Dev nD) : Nat :=
  let c0_i32_617 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_616 : BitVec 32 := 8#32
  let v608 : BitVec 32 := Scalar.muli v2 c8_i32_616
  let v609 : BitVec 32 := Scalar.addi c0_i32_617 v608
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_618 : BitVec 32 := 4#32
  let v610 : BitVec 32 := Scalar.muli v10 c4_i32_618
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v612 : BitVec 32 := Scalar.muli v8 c1_i32_619
  let v613 : BitVec 32 := Scalar.addi v611 v612
  v613.toNat
def k0_dev19 (d0 : Dev nD) : Nat :=
  let c0_i32_645 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_644 : BitVec 32 := 8#32
  let v640 : BitVec 32 := Scalar.muli v9 c8_i32_644
  let v641 : BitVec 32 := Scalar.addi c0_i32_645 v640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_646 : BitVec 32 := 4#32
  let v642 : BitVec 32 := Scalar.muli v5 c4_i32_646
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v644 : BitVec 32 := Scalar.muli v8 c1_i32_647
  let v645 : BitVec 32 := Scalar.addi v643 v644
  v645.toNat
def k0_dev20 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v662 : BitVec 32 := Scalar.muli v2 c8_i32_664
  let v663 : BitVec 32 := Scalar.addi c0_i32_665 v662
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_666 : BitVec 32 := 4#32
  let v664 : BitVec 32 := Scalar.muli v10 c4_i32_666
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v666 : BitVec 32 := Scalar.muli v8 c1_i32_667
  let v667 : BitVec 32 := Scalar.addi v665 v666
  v667.toNat
def k0_dev21 (d0 : Dev nD) : Nat :=
  let c0_i32_693 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_692 : BitVec 32 := 8#32
  let v694 : BitVec 32 := Scalar.muli v9 c8_i32_692
  let v695 : BitVec 32 := Scalar.addi c0_i32_693 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_694 : BitVec 32 := 4#32
  let v696 : BitVec 32 := Scalar.muli v5 c4_i32_694
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_695 : BitVec 32 := 1#32
  let v698 : BitVec 32 := Scalar.muli v8 c1_i32_695
  let v699 : BitVec 32 := Scalar.addi v697 v698
  v699.toNat
def k0_dev22 (d0 : Dev nD) : Nat :=
  let c0_i32_713 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_712 : BitVec 32 := 8#32
  let v716 : BitVec 32 := Scalar.muli v2 c8_i32_712
  let v717 : BitVec 32 := Scalar.addi c0_i32_713 v716
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_714 : BitVec 32 := 4#32
  let v718 : BitVec 32 := Scalar.muli v10 c4_i32_714
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v720 : BitVec 32 := Scalar.muli v8 c1_i32_715
  let v721 : BitVec 32 := Scalar.addi v719 v720
  v721.toNat
def k0_dev23 (d0 : Dev nD) : Nat :=
  let c0_i32_741 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_740 : BitVec 32 := 8#32
  let v748 : BitVec 32 := Scalar.muli v9 c8_i32_740
  let v749 : BitVec 32 := Scalar.addi c0_i32_741 v748
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_742 : BitVec 32 := 4#32
  let v750 : BitVec 32 := Scalar.muli v5 c4_i32_742
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v752 : BitVec 32 := Scalar.muli v8 c1_i32_743
  let v753 : BitVec 32 := Scalar.addi v751 v752
  v753.toNat
def k0_dev24 (d0 : Dev nD) : Nat :=
  let c0_i32_761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_760 : BitVec 32 := 8#32
  let v770 : BitVec 32 := Scalar.muli v2 c8_i32_760
  let v771 : BitVec 32 := Scalar.addi c0_i32_761 v770
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_762 : BitVec 32 := 4#32
  let v772 : BitVec 32 := Scalar.muli v10 c4_i32_762
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_763 : BitVec 32 := 1#32
  let v774 : BitVec 32 := Scalar.muli v8 c1_i32_763
  let v775 : BitVec 32 := Scalar.addi v773 v774
  v775.toNat
def k0_dev25 (d0 : Dev nD) : Nat :=
  let c0_i32_789 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_788 : BitVec 32 := 8#32
  let v802 : BitVec 32 := Scalar.muli v9 c8_i32_788
  let v803 : BitVec 32 := Scalar.addi c0_i32_789 v802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_790 : BitVec 32 := 4#32
  let v804 : BitVec 32 := Scalar.muli v5 c4_i32_790
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_791 : BitVec 32 := 1#32
  let v806 : BitVec 32 := Scalar.muli v8 c1_i32_791
  let v807 : BitVec 32 := Scalar.addi v805 v806
  v807.toNat
def k0_dev26 (d0 : Dev nD) : Nat :=
  let c0_i32_809 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_808 : BitVec 32 := 8#32
  let v824 : BitVec 32 := Scalar.muli v2 c8_i32_808
  let v825 : BitVec 32 := Scalar.addi c0_i32_809 v824
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_810 : BitVec 32 := 4#32
  let v826 : BitVec 32 := Scalar.muli v10 c4_i32_810
  let v827 : BitVec 32 := Scalar.addi v825 v826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_811 : BitVec 32 := 1#32
  let v828 : BitVec 32 := Scalar.muli v8 c1_i32_811
  let v829 : BitVec 32 := Scalar.addi v827 v828
  v829.toNat
def k0_dev27 (d0 : Dev nD) : Nat :=
  let c0_i32_837 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_836 : BitVec 32 := 8#32
  let v856 : BitVec 32 := Scalar.muli v9 c8_i32_836
  let v857 : BitVec 32 := Scalar.addi c0_i32_837 v856
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_838 : BitVec 32 := 4#32
  let v858 : BitVec 32 := Scalar.muli v5 c4_i32_838
  let v859 : BitVec 32 := Scalar.addi v857 v858
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v860 : BitVec 32 := Scalar.muli v8 c1_i32_839
  let v861 : BitVec 32 := Scalar.addi v859 v860
  v861.toNat
def k0_dev28 (d0 : Dev nD) : Nat :=
  let c0_i32_857 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_856 : BitVec 32 := 8#32
  let v878 : BitVec 32 := Scalar.muli v2 c8_i32_856
  let v879 : BitVec 32 := Scalar.addi c0_i32_857 v878
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_858 : BitVec 32 := 4#32
  let v880 : BitVec 32 := Scalar.muli v10 c4_i32_858
  let v881 : BitVec 32 := Scalar.addi v879 v880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_859 : BitVec 32 := 1#32
  let v882 : BitVec 32 := Scalar.muli v8 c1_i32_859
  let v883 : BitVec 32 := Scalar.addi v881 v882
  v883.toNat
def k0_dev29 (d0 : Dev nD) : Nat :=
  let c0_i32_878 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_877 : BitVec 32 := 8#32
  let v903 : BitVec 32 := Scalar.muli v9 c8_i32_877
  let v904 : BitVec 32 := Scalar.addi c0_i32_878 v903
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_879 : BitVec 32 := 4#32
  let v905 : BitVec 32 := Scalar.muli v5 c4_i32_879
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v907 : BitVec 32 := Scalar.muli v8 c1_i32_880
  let v908 : BitVec 32 := Scalar.addi v906 v907
  v908.toNat
def k0_dev30 (d0 : Dev nD) : Nat :=
  let c0_i32_898 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_897 : BitVec 32 := 8#32
  let v925 : BitVec 32 := Scalar.muli v2 c8_i32_897
  let v926 : BitVec 32 := Scalar.addi c0_i32_898 v925
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_899 : BitVec 32 := 4#32
  let v927 : BitVec 32 := Scalar.muli v10 c4_i32_899
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_900 : BitVec 32 := 1#32
  let v929 : BitVec 32 := Scalar.muli v8 c1_i32_900
  let v930 : BitVec 32 := Scalar.addi v928 v929
  v930.toNat
def k0_dev31 (d0 : Dev nD) : Nat :=
  let c0_i32_918 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_917 : BitVec 32 := 8#32
  let v947 : BitVec 32 := Scalar.muli v2 c8_i32_917
  let v948 : BitVec 32 := Scalar.addi c0_i32_918 v947
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_919 : BitVec 32 := 4#32
  let v949 : BitVec 32 := Scalar.muli v10 c4_i32_919
  let v950 : BitVec 32 := Scalar.addi v948 v949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_920 : BitVec 32 := 1#32
  let v951 : BitVec 32 := Scalar.muli v8 c1_i32_920
  let v952 : BitVec 32 := Scalar.addi v950 v951
  v952.toNat
def k0_dev32 (d0 : Dev nD) : Nat :=
  let c0_i32_938 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_937 : BitVec 32 := 8#32
  let v969 : BitVec 32 := Scalar.muli v2 c8_i32_937
  let v970 : BitVec 32 := Scalar.addi c0_i32_938 v969
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_939 : BitVec 32 := 4#32
  let v971 : BitVec 32 := Scalar.muli v10 c4_i32_939
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_940 : BitVec 32 := 1#32
  let v973 : BitVec 32 := Scalar.muli v8 c1_i32_940
  let v974 : BitVec 32 := Scalar.addi v972 v973
  v974.toNat
def k0_dev33 (d0 : Dev nD) : Nat :=
  let c0_i32_958 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_957 : BitVec 32 := 8#32
  let v991 : BitVec 32 := Scalar.muli v2 c8_i32_957
  let v992 : BitVec 32 := Scalar.addi c0_i32_958 v991
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_959 : BitVec 32 := 4#32
  let v993 : BitVec 32 := Scalar.muli v10 c4_i32_959
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_960 : BitVec 32 := 1#32
  let v995 : BitVec 32 := Scalar.muli v8 c1_i32_960
  let v996 : BitVec 32 := Scalar.addi v994 v995
  v996.toNat
def k0_dev34 (d0 : Dev nD) : Nat :=
  let c0_i32_978 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_977 : BitVec 32 := 8#32
  let v1013 : BitVec 32 := Scalar.muli v2 c8_i32_977
  let v1014 : BitVec 32 := Scalar.addi c0_i32_978 v1013
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_979 : BitVec 32 := 4#32
  let v1015 : BitVec 32 := Scalar.muli v10 c4_i32_979
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_980 : BitVec 32 := 1#32
  let v1017 : BitVec 32 := Scalar.muli v8 c1_i32_980
  let v1018 : BitVec 32 := Scalar.addi v1016 v1017
  v1018.toNat
def k0_off2 (d0 : Dev nD) (true_986 : BitVec 1) (c0_i32_985 : BitVec 32) (c_m2048_i32 : BitVec 32) : Fin 3 → Nat :=
  let c0_i32_987 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v1025 : BitVec 32 := Scalar.addi v11 c0_i32_985
  let c1_i32_4 : BitVec 32 := 1#32
  let v12 : BitVec 32 := Scalar.subi c1_i32_4 v5
  let c2048_i32_5 : BitVec 32 := 2048#32
  let v13 : BitVec 32 := Scalar.muli v12 c2048_i32_5
  let v1026 : BitVec 32 := Scalar.addi v13 c_m2048_i32
  let v1027 : BitVec 32 := Scalar.select true_986 v1025 v1026
  let c0_i32_992 : BitVec 32 := 0#32
  ![0, v1027.toNat, 0]
def k0_off2_at (r : Fin 4) : BitVec 1 × BitVec 32 × BitVec 32 :=
  if r.val < 2 then
    if r.val < 1 then
      (1#1, 0#32, 4294965248#32)
    else
      (1#1, 1024#32, 4294966272#32)
  else
    if r.val < 3 then
      (0#1, 2048#32, 0#32)
    else
      (0#1, 3072#32, 1024#32)
def k0_off3 (d0 : Dev nD) (c0_i32_1015 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v1057 : BitVec 32 := Scalar.addi v11 c0_i32_1015
  let v1058 : Index := Scalar.indexCast v1057
  let c0_1016 : Index := 0#32
  ![v1058.toNat, 0]
def k0_off4 (d0 : Dev nD) (c0_i32_1143 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c2048_i32_5 : BitVec 32 := 2048#32
  let v13 : BitVec 32 := Scalar.muli v12 c2048_i32_5
  let v1189 : BitVec 32 := Scalar.addi v13 c0_i32_1143
  let v1190 : Index := Scalar.indexCast v1189
  let c0_1144 : Index := 0#32
  ![v1190.toNat, 0]
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_18 : BitVec 32 := 1#32
  let v30 : BitVec 1 := Scalar.cmpi .eq v2 c1_i32_18
  let v31 : BitVec 32 := Scalar.extui v30
  let c0_i32_19 : BitVec 32 := 0#32
  let v32 : BitVec 1 := Scalar.cmpi .ne v31 c0_i32_19
  v32

def k0_off5 (d0 : Dev nD) (c0_i32_218 : BitVec 32) : Fin 3 → Nat :=
  let c0_i32_219 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v161 : BitVec 32 := Scalar.addi v11 c0_i32_218
  let c0_i32_224 : BitVec 32 := 0#32
  ![0, v161.toNat, 0]
def k0_dev35 (d0 : Dev nD) : Nat :=
  let c0_i32_246 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_245 : BitVec 32 := 8#32
  let v188 : BitVec 32 := Scalar.muli v9 c8_i32_245
  let v189 : BitVec 32 := Scalar.addi c0_i32_246 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_247 : BitVec 32 := 4#32
  let v190 : BitVec 32 := Scalar.muli v5 c4_i32_247
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v192 : BitVec 32 := Scalar.muli v8 c1_i32_248
  let v193 : BitVec 32 := Scalar.addi v191 v192
  v193.toNat
def k0_dev36 (d0 : Dev nD) : Nat :=
  let c0_i32_273 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_272 : BitVec 32 := 8#32
  let v220 : BitVec 32 := Scalar.muli v9 c8_i32_272
  let v221 : BitVec 32 := Scalar.addi c0_i32_273 v220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_274 : BitVec 32 := 4#32
  let v222 : BitVec 32 := Scalar.muli v5 c4_i32_274
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v224 : BitVec 32 := Scalar.muli v8 c1_i32_275
  let v225 : BitVec 32 := Scalar.addi v223 v224
  v225.toNat
def k0_dev37 (d0 : Dev nD) : Nat :=
  let c0_i32_301 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_300 : BitVec 32 := 8#32
  let v252 : BitVec 32 := Scalar.muli v9 c8_i32_300
  let v253 : BitVec 32 := Scalar.addi c0_i32_301 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v254 : BitVec 32 := Scalar.muli v5 c4_i32_302
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v256 : BitVec 32 := Scalar.muli v8 c1_i32_303
  let v257 : BitVec 32 := Scalar.addi v255 v256
  v257.toNat
def k0_dev38 (d0 : Dev nD) : Nat :=
  let c0_i32_329 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_328 : BitVec 32 := 8#32
  let v284 : BitVec 32 := Scalar.muli v9 c8_i32_328
  let v285 : BitVec 32 := Scalar.addi c0_i32_329 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_330 : BitVec 32 := 4#32
  let v286 : BitVec 32 := Scalar.muli v5 c4_i32_330
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v288 : BitVec 32 := Scalar.muli v8 c1_i32_331
  let v289 : BitVec 32 := Scalar.addi v287 v288
  v289.toNat
def k0_dev39 (d0 : Dev nD) : Nat :=
  let c0_i32_357 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_356 : BitVec 32 := 8#32
  let v316 : BitVec 32 := Scalar.muli v9 c8_i32_356
  let v317 : BitVec 32 := Scalar.addi c0_i32_357 v316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v318 : BitVec 32 := Scalar.muli v5 c4_i32_358
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v320 : BitVec 32 := Scalar.muli v8 c1_i32_359
  let v321 : BitVec 32 := Scalar.addi v319 v320
  v321.toNat
def k0_dev40 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v338 : BitVec 32 := Scalar.muli v2 c8_i32_376
  let v339 : BitVec 32 := Scalar.addi c0_i32_377 v338
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_378 : BitVec 32 := 4#32
  let v340 : BitVec 32 := Scalar.muli v10 c4_i32_378
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v342 : BitVec 32 := Scalar.muli v8 c1_i32_379
  let v343 : BitVec 32 := Scalar.addi v341 v342
  v343.toNat
def k0_dev41 (d0 : Dev nD) : Nat :=
  let c0_i32_405 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_404 : BitVec 32 := 8#32
  let v370 : BitVec 32 := Scalar.muli v9 c8_i32_404
  let v371 : BitVec 32 := Scalar.addi c0_i32_405 v370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_406 : BitVec 32 := 4#32
  let v372 : BitVec 32 := Scalar.muli v5 c4_i32_406
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v374 : BitVec 32 := Scalar.muli v8 c1_i32_407
  let v375 : BitVec 32 := Scalar.addi v373 v374
  v375.toNat
def k0_dev42 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v392 : BitVec 32 := Scalar.muli v2 c8_i32_424
  let v393 : BitVec 32 := Scalar.addi c0_i32_425 v392
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_426 : BitVec 32 := 4#32
  let v394 : BitVec 32 := Scalar.muli v10 c4_i32_426
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v396 : BitVec 32 := Scalar.muli v8 c1_i32_427
  let v397 : BitVec 32 := Scalar.addi v395 v396
  v397.toNat
def k0_dev43 (d0 : Dev nD) : Nat :=
  let c0_i32_453 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_452 : BitVec 32 := 8#32
  let v424 : BitVec 32 := Scalar.muli v9 c8_i32_452
  let v425 : BitVec 32 := Scalar.addi c0_i32_453 v424
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_454 : BitVec 32 := 4#32
  let v426 : BitVec 32 := Scalar.muli v5 c4_i32_454
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v428 : BitVec 32 := Scalar.muli v8 c1_i32_455
  let v429 : BitVec 32 := Scalar.addi v427 v428
  v429.toNat
def k0_dev44 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v446 : BitVec 32 := Scalar.muli v2 c8_i32_472
  let v447 : BitVec 32 := Scalar.addi c0_i32_473 v446
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_474 : BitVec 32 := 4#32
  let v448 : BitVec 32 := Scalar.muli v10 c4_i32_474
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v450 : BitVec 32 := Scalar.muli v8 c1_i32_475
  let v451 : BitVec 32 := Scalar.addi v449 v450
  v451.toNat
def k0_dev45 (d0 : Dev nD) : Nat :=
  let c0_i32_501 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_500 : BitVec 32 := 8#32
  let v478 : BitVec 32 := Scalar.muli v9 c8_i32_500
  let v479 : BitVec 32 := Scalar.addi c0_i32_501 v478
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_502 : BitVec 32 := 4#32
  let v480 : BitVec 32 := Scalar.muli v5 c4_i32_502
  let v481 : BitVec 32 := Scalar.addi v479 v480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v482 : BitVec 32 := Scalar.muli v8 c1_i32_503
  let v483 : BitVec 32 := Scalar.addi v481 v482
  v483.toNat
def k0_dev46 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v500 : BitVec 32 := Scalar.muli v2 c8_i32_520
  let v501 : BitVec 32 := Scalar.addi c0_i32_521 v500
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_522 : BitVec 32 := 4#32
  let v502 : BitVec 32 := Scalar.muli v10 c4_i32_522
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v504 : BitVec 32 := Scalar.muli v8 c1_i32_523
  let v505 : BitVec 32 := Scalar.addi v503 v504
  v505.toNat
def k0_dev47 (d0 : Dev nD) : Nat :=
  let c0_i32_549 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_548 : BitVec 32 := 8#32
  let v532 : BitVec 32 := Scalar.muli v9 c8_i32_548
  let v533 : BitVec 32 := Scalar.addi c0_i32_549 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_550 : BitVec 32 := 4#32
  let v534 : BitVec 32 := Scalar.muli v5 c4_i32_550
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_551 : BitVec 32 := 1#32
  let v536 : BitVec 32 := Scalar.muli v8 c1_i32_551
  let v537 : BitVec 32 := Scalar.addi v535 v536
  v537.toNat
def k0_dev48 (d0 : Dev nD) : Nat :=
  let c0_i32_569 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_568 : BitVec 32 := 8#32
  let v554 : BitVec 32 := Scalar.muli v2 c8_i32_568
  let v555 : BitVec 32 := Scalar.addi c0_i32_569 v554
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_570 : BitVec 32 := 4#32
  let v556 : BitVec 32 := Scalar.muli v10 c4_i32_570
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_571 : BitVec 32 := 1#32
  let v558 : BitVec 32 := Scalar.muli v8 c1_i32_571
  let v559 : BitVec 32 := Scalar.addi v557 v558
  v559.toNat
def k0_dev49 (d0 : Dev nD) : Nat :=
  let c0_i32_597 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_596 : BitVec 32 := 8#32
  let v586 : BitVec 32 := Scalar.muli v9 c8_i32_596
  let v587 : BitVec 32 := Scalar.addi c0_i32_597 v586
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_598 : BitVec 32 := 4#32
  let v588 : BitVec 32 := Scalar.muli v5 c4_i32_598
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_599 : BitVec 32 := 1#32
  let v590 : BitVec 32 := Scalar.muli v8 c1_i32_599
  let v591 : BitVec 32 := Scalar.addi v589 v590
  v591.toNat
def k0_dev50 (d0 : Dev nD) : Nat :=
  let c0_i32_617 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_616 : BitVec 32 := 8#32
  let v608 : BitVec 32 := Scalar.muli v2 c8_i32_616
  let v609 : BitVec 32 := Scalar.addi c0_i32_617 v608
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_618 : BitVec 32 := 4#32
  let v610 : BitVec 32 := Scalar.muli v10 c4_i32_618
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v612 : BitVec 32 := Scalar.muli v8 c1_i32_619
  let v613 : BitVec 32 := Scalar.addi v611 v612
  v613.toNat
def k0_dev51 (d0 : Dev nD) : Nat :=
  let c0_i32_645 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_644 : BitVec 32 := 8#32
  let v640 : BitVec 32 := Scalar.muli v9 c8_i32_644
  let v641 : BitVec 32 := Scalar.addi c0_i32_645 v640
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_646 : BitVec 32 := 4#32
  let v642 : BitVec 32 := Scalar.muli v5 c4_i32_646
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v644 : BitVec 32 := Scalar.muli v8 c1_i32_647
  let v645 : BitVec 32 := Scalar.addi v643 v644
  v645.toNat
def k0_dev52 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v662 : BitVec 32 := Scalar.muli v2 c8_i32_664
  let v663 : BitVec 32 := Scalar.addi c0_i32_665 v662
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_666 : BitVec 32 := 4#32
  let v664 : BitVec 32 := Scalar.muli v10 c4_i32_666
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v666 : BitVec 32 := Scalar.muli v8 c1_i32_667
  let v667 : BitVec 32 := Scalar.addi v665 v666
  v667.toNat
def k0_dev53 (d0 : Dev nD) : Nat :=
  let c0_i32_693 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_692 : BitVec 32 := 8#32
  let v694 : BitVec 32 := Scalar.muli v9 c8_i32_692
  let v695 : BitVec 32 := Scalar.addi c0_i32_693 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_694 : BitVec 32 := 4#32
  let v696 : BitVec 32 := Scalar.muli v5 c4_i32_694
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_695 : BitVec 32 := 1#32
  let v698 : BitVec 32 := Scalar.muli v8 c1_i32_695
  let v699 : BitVec 32 := Scalar.addi v697 v698
  v699.toNat
def k0_dev54 (d0 : Dev nD) : Nat :=
  let c0_i32_713 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_712 : BitVec 32 := 8#32
  let v716 : BitVec 32 := Scalar.muli v2 c8_i32_712
  let v717 : BitVec 32 := Scalar.addi c0_i32_713 v716
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_714 : BitVec 32 := 4#32
  let v718 : BitVec 32 := Scalar.muli v10 c4_i32_714
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v720 : BitVec 32 := Scalar.muli v8 c1_i32_715
  let v721 : BitVec 32 := Scalar.addi v719 v720
  v721.toNat
def k0_dev55 (d0 : Dev nD) : Nat :=
  let c0_i32_741 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_740 : BitVec 32 := 8#32
  let v748 : BitVec 32 := Scalar.muli v9 c8_i32_740
  let v749 : BitVec 32 := Scalar.addi c0_i32_741 v748
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_742 : BitVec 32 := 4#32
  let v750 : BitVec 32 := Scalar.muli v5 c4_i32_742
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v752 : BitVec 32 := Scalar.muli v8 c1_i32_743
  let v753 : BitVec 32 := Scalar.addi v751 v752
  v753.toNat
def k0_dev56 (d0 : Dev nD) : Nat :=
  let c0_i32_761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_760 : BitVec 32 := 8#32
  let v770 : BitVec 32 := Scalar.muli v2 c8_i32_760
  let v771 : BitVec 32 := Scalar.addi c0_i32_761 v770
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_762 : BitVec 32 := 4#32
  let v772 : BitVec 32 := Scalar.muli v10 c4_i32_762
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_763 : BitVec 32 := 1#32
  let v774 : BitVec 32 := Scalar.muli v8 c1_i32_763
  let v775 : BitVec 32 := Scalar.addi v773 v774
  v775.toNat
def k0_dev57 (d0 : Dev nD) : Nat :=
  let c0_i32_789 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_788 : BitVec 32 := 8#32
  let v802 : BitVec 32 := Scalar.muli v9 c8_i32_788
  let v803 : BitVec 32 := Scalar.addi c0_i32_789 v802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_790 : BitVec 32 := 4#32
  let v804 : BitVec 32 := Scalar.muli v5 c4_i32_790
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_791 : BitVec 32 := 1#32
  let v806 : BitVec 32 := Scalar.muli v8 c1_i32_791
  let v807 : BitVec 32 := Scalar.addi v805 v806
  v807.toNat
def k0_dev58 (d0 : Dev nD) : Nat :=
  let c0_i32_809 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_808 : BitVec 32 := 8#32
  let v824 : BitVec 32 := Scalar.muli v2 c8_i32_808
  let v825 : BitVec 32 := Scalar.addi c0_i32_809 v824
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_810 : BitVec 32 := 4#32
  let v826 : BitVec 32 := Scalar.muli v10 c4_i32_810
  let v827 : BitVec 32 := Scalar.addi v825 v826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_811 : BitVec 32 := 1#32
  let v828 : BitVec 32 := Scalar.muli v8 c1_i32_811
  let v829 : BitVec 32 := Scalar.addi v827 v828
  v829.toNat
def k0_dev59 (d0 : Dev nD) : Nat :=
  let c0_i32_837 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_836 : BitVec 32 := 8#32
  let v856 : BitVec 32 := Scalar.muli v9 c8_i32_836
  let v857 : BitVec 32 := Scalar.addi c0_i32_837 v856
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_838 : BitVec 32 := 4#32
  let v858 : BitVec 32 := Scalar.muli v5 c4_i32_838
  let v859 : BitVec 32 := Scalar.addi v857 v858
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v860 : BitVec 32 := Scalar.muli v8 c1_i32_839
  let v861 : BitVec 32 := Scalar.addi v859 v860
  v861.toNat
def k0_dev60 (d0 : Dev nD) : Nat :=
  let c0_i32_857 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_856 : BitVec 32 := 8#32
  let v878 : BitVec 32 := Scalar.muli v2 c8_i32_856
  let v879 : BitVec 32 := Scalar.addi c0_i32_857 v878
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_858 : BitVec 32 := 4#32
  let v880 : BitVec 32 := Scalar.muli v10 c4_i32_858
  let v881 : BitVec 32 := Scalar.addi v879 v880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_859 : BitVec 32 := 1#32
  let v882 : BitVec 32 := Scalar.muli v8 c1_i32_859
  let v883 : BitVec 32 := Scalar.addi v881 v882
  v883.toNat
def k0_dev61 (d0 : Dev nD) : Nat :=
  let c0_i32_878 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_877 : BitVec 32 := 8#32
  let v903 : BitVec 32 := Scalar.muli v9 c8_i32_877
  let v904 : BitVec 32 := Scalar.addi c0_i32_878 v903
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_879 : BitVec 32 := 4#32
  let v905 : BitVec 32 := Scalar.muli v5 c4_i32_879
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v907 : BitVec 32 := Scalar.muli v8 c1_i32_880
  let v908 : BitVec 32 := Scalar.addi v906 v907
  v908.toNat
def k0_dev62 (d0 : Dev nD) : Nat :=
  let c0_i32_898 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_897 : BitVec 32 := 8#32
  let v925 : BitVec 32 := Scalar.muli v2 c8_i32_897
  let v926 : BitVec 32 := Scalar.addi c0_i32_898 v925
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_899 : BitVec 32 := 4#32
  let v927 : BitVec 32 := Scalar.muli v10 c4_i32_899
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_900 : BitVec 32 := 1#32
  let v929 : BitVec 32 := Scalar.muli v8 c1_i32_900
  let v930 : BitVec 32 := Scalar.addi v928 v929
  v930.toNat
def k0_dev63 (d0 : Dev nD) : Nat :=
  let c0_i32_918 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_917 : BitVec 32 := 8#32
  let v947 : BitVec 32 := Scalar.muli v2 c8_i32_917
  let v948 : BitVec 32 := Scalar.addi c0_i32_918 v947
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_919 : BitVec 32 := 4#32
  let v949 : BitVec 32 := Scalar.muli v10 c4_i32_919
  let v950 : BitVec 32 := Scalar.addi v948 v949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_920 : BitVec 32 := 1#32
  let v951 : BitVec 32 := Scalar.muli v8 c1_i32_920
  let v952 : BitVec 32 := Scalar.addi v950 v951
  v952.toNat
def k0_dev64 (d0 : Dev nD) : Nat :=
  let c0_i32_938 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_937 : BitVec 32 := 8#32
  let v969 : BitVec 32 := Scalar.muli v2 c8_i32_937
  let v970 : BitVec 32 := Scalar.addi c0_i32_938 v969
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_939 : BitVec 32 := 4#32
  let v971 : BitVec 32 := Scalar.muli v10 c4_i32_939
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_940 : BitVec 32 := 1#32
  let v973 : BitVec 32 := Scalar.muli v8 c1_i32_940
  let v974 : BitVec 32 := Scalar.addi v972 v973
  v974.toNat
def k0_dev65 (d0 : Dev nD) : Nat :=
  let c0_i32_958 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_957 : BitVec 32 := 8#32
  let v991 : BitVec 32 := Scalar.muli v2 c8_i32_957
  let v992 : BitVec 32 := Scalar.addi c0_i32_958 v991
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_959 : BitVec 32 := 4#32
  let v993 : BitVec 32 := Scalar.muli v10 c4_i32_959
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_960 : BitVec 32 := 1#32
  let v995 : BitVec 32 := Scalar.muli v8 c1_i32_960
  let v996 : BitVec 32 := Scalar.addi v994 v995
  v996.toNat
def k0_dev66 (d0 : Dev nD) : Nat :=
  let c0_i32_978 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_977 : BitVec 32 := 8#32
  let v1013 : BitVec 32 := Scalar.muli v2 c8_i32_977
  let v1014 : BitVec 32 := Scalar.addi c0_i32_978 v1013
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_979 : BitVec 32 := 4#32
  let v1015 : BitVec 32 := Scalar.muli v10 c4_i32_979
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_980 : BitVec 32 := 1#32
  let v1017 : BitVec 32 := Scalar.muli v8 c1_i32_980
  let v1018 : BitVec 32 := Scalar.addi v1016 v1017
  v1018.toNat
def k0_off6 (d0 : Dev nD) (true_986 : BitVec 1) (c0_i32_985 : BitVec 32) (c_m2048_i32 : BitVec 32) : Fin 3 → Nat :=
  let c0_i32_987 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v1025 : BitVec 32 := Scalar.addi v11 c0_i32_985
  let c1_i32_4 : BitVec 32 := 1#32
  let v12 : BitVec 32 := Scalar.subi c1_i32_4 v5
  let c2048_i32_5 : BitVec 32 := 2048#32
  let v13 : BitVec 32 := Scalar.muli v12 c2048_i32_5
  let v1026 : BitVec 32 := Scalar.addi v13 c_m2048_i32
  let v1027 : BitVec 32 := Scalar.select true_986 v1025 v1026
  let c1024_i32_992 : BitVec 32 := 1024#32
  ![0, v1027.toNat, 1024]
def k0_off6_at (r : Fin 4) : BitVec 1 × BitVec 32 × BitVec 32 :=
  if r.val < 2 then
    if r.val < 1 then
      (1#1, 0#32, 4294965248#32)
    else
      (1#1, 1024#32, 4294966272#32)
  else
    if r.val < 3 then
      (0#1, 2048#32, 0#32)
    else
      (0#1, 3072#32, 1024#32)
def k0_off7 (d0 : Dev nD) (c0_i32_1015 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v1057 : BitVec 32 := Scalar.addi v11 c0_i32_1015
  let v1058 : Index := Scalar.indexCast v1057
  let c0_1016 : Index := 0#32
  ![v1058.toNat, 0]
def k0_off8 (d0 : Dev nD) (c0_i32_1143 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c2048_i32_5 : BitVec 32 := 2048#32
  let v13 : BitVec 32 := Scalar.muli v12 c2048_i32_5
  let v1189 : BitVec 32 := Scalar.addi v13 c0_i32_1143
  let v1190 : Index := Scalar.indexCast v1189
  let c0_1144 : Index := 0#32
  ![v1190.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .bf16⟩
  | .hbm, ⟨2, _⟩ => ⟨S2x4096x2048, .f32⟩
  | .hbm, ⟨3, _⟩ => ⟨S_, .f32⟩
  | .hbm, ⟨4, _⟩ => ⟨S4096x2048, .f32⟩
  | .hbm, ⟨5, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
# The kernel as a program of its own steps

The printed kernel is one long straight line: sixteen chunks streamed through two exchanges, then four additions,
the line written twice, once per side of the mesh axis `x`. This module names each step over the number of the chunk
it handles, puts the steps together by recursion over the chunks, and shows that the printed kernel is the result.
-/
module

public import proofs.«01_k».proof.Proof.Gen.KernelIdeal.Points
public import Idealize.ShloMosaic.Lib.Tactic

@[expose] public section

noncomputable section

namespace Cert.KernelIdeal.Line

open Cert.KernelIdeal Cert.KernelIdeal.Gen
open Idealize.ShloMosaic Idealize.SL.Sem

variable {F : FTy → Type} [FloatOps F]

/-! ## The memrefs -/

abbrev xM : Memref sig .tc .hbm S1x4096x2048 .f32 := Memref.whole main_arg0
abbrev outM : Memref sig .tc .vmem S4096x1024 .bf16 := Memref.whole cc0_stg0_0
abbrev ldM : Memref sig .tc .vmem S2x128x1024 .f32 := Memref.whole cc0_scratch0
abbrev bigM : Memref sig .tc .vmem S2x1024x1024 .f32 := Memref.whole cc0_scratch1
abbrev xsM : Memref sig .tc .vmem S2048x1024 .bf16 := Memref.whole cc0_scratch2
abbrev xrM : Memref sig .tc .vmem S2048x1024 .bf16 := Memref.whole cc0_scratch3
abbrev yrM : Memref sig .tc .vmem S2048x1024 .bf16 := Memref.whole cc0_scratch4

/-- The neighbour along the mesh axis `x`. -/
abbrev xn (c : Dev nD) : Dev nD := ⟨k0_dev1 c, k0_dev1_lt c⟩
/-- The neighbour along the mesh axis `y`. -/
abbrev yn (c : Dev nD) : Dev nD := ⟨k0_dev2 c, k0_dev2_lt c⟩

/-! ## The rectangles -/

theorem rows_inb : ∀ s : Fin 16, ∀ a, (![128 * s.val, 0] : Fin 2 → Nat) a + S128x1024.size a ≤ S2048x1024.size a := by
  decide
/-- The rows of chunk `s` in a buffer of 2048 rows. -/
abbrev rowR (s : Fin 16) : Rect S2048x1024 := Rect.unit (s := S2048x1024) ![128 * s.val, 0] S128x1024.size (rows_inb s)
theorem rows_packed : ∀ s : Fin 16, (rowR s).PackedRows (EltTy.packing .bf16) := by decide
theorem rows_words : ∀ s : Fin 16, (rowR s).WholeWords (EltTy.packing .bf16) := by decide

theorem ld_inb : ∀ b : Fin 2, ∀ a, (![b.val, 0, 0] : Fin 3 → Nat) a + S1x128x1024.size a ≤ S2x128x1024.size a := by
  decide
/-- Slot `b` of the double buffer the chunks are loaded into. -/
abbrev ldR (b : Fin 2) : Rect S2x128x1024 := Rect.unit (s := S2x128x1024) ![b.val, 0, 0] S1x128x1024.size (ld_inb b)

theorem big_inb : ∀ b : Fin 2, ∀ a, (![b.val, 0, 0] : Fin 3 → Nat) a + S1x1024x1024.size a ≤ S2x1024x1024.size a := by
  decide
/-- Slot `b` of the double buffer the quarters of the result are loaded into. -/
abbrev bigR (b : Fin 2) : Rect S2x1024x1024 := Rect.unit (s := S2x1024x1024) ![b.val, 0, 0] S1x1024x1024.size (big_inb b)

theorem half_inb : ∀ h : Fin 2, ∀ a, (![1024 * h.val, 0] : Fin 2 → Nat) a + S1024x1024.size a ≤ S2048x1024.size a := by
  decide
/-- Half `h` of the rows of a buffer of 2048 rows. -/
abbrev halfR (h : Fin 2) : Rect S2048x1024 := Rect.unit (s := S2048x1024) ![1024 * h.val, 0] S1024x1024.size (half_inb h)

theorem sem16_inb : ∀ s : Fin 16, ∀ a, (![s.val] : Fin 1 → Nat) a + S1.size a ≤ S16.size a := by decide
theorem sem2_inb : ∀ s : Fin 2, ∀ a, (![s.val] : Fin 1 → Nat) a + S1.size a ≤ S2.size a := by decide
/-- Semaphore `s` of an array of sixteen. -/
abbrev sem16 (A : DmaSems sig S16) (s : Fin 16) : DmaSem sig :=
  ((A.slice (Rect.unit (s := S16) ![s.val] S1.size (sem16_inb s))).squeeze S_ squeezes_S1_S_).sem
/-- Semaphore `b` of an array of two. -/
abbrev sem2 (A : DmaSems sig S2) (b : Fin 2) : DmaSem sig :=
  ((A.slice (Rect.unit (s := S2) ![b.val] S1.size (sem2_inb b))).squeeze S_ squeezes_S1_S_).sem

/-- The rows of chunk `s` of a buffer of 2048 rows, as a memref. -/
abbrev rowM (M : Memref sig .tc .vmem S2048x1024 .bf16) (s : Fin 16) : Memref sig .tc .vmem S128x1024 .bf16 :=
  M.slice (rowR s) (fun _ => rfl)
abbrev ldS (b : Fin 2) : Memref sig .tc .vmem S128x1024 .f32 :=
  (ldM.slice (ldR b) (fun _ => rfl)).squeeze S128x1024 squeezes_S1x128x1024_S128x1024
abbrev bigS (b : Fin 2) : Memref sig .tc .vmem S1024x1024 .f32 :=
  (bigM.slice (bigR b) (fun _ => rfl)).squeeze S1024x1024 squeezes_S1x1024x1024_S1024x1024

/-! ## A side of the mesh axis `x` -/

/-- The offsets one side of the mesh axis `x` computes: where chunk `s` and quarter `j` lie in the operand, and where
    quarter `j` lies in the result. -/
structure Side (c : Dev nD) where
  lo : Fin 16 → Fin 3 → Nat
  lo_inb : ∀ s a, lo s a + S1x128x1024.size a ≤ S1x4096x2048.size a
  bo : Fin 4 → Fin 3 → Nat
  bo_inb : ∀ j a, bo j a + S1x1024x1024.size a ≤ S1x4096x2048.size a
  oo : Fin 4 → Fin 2 → Nat
  oo_inb : ∀ j a, oo j a + S1024x1024.size a ≤ S4096x1024.size a
  oo_packed : ∀ j, (Rect.unit (s := S4096x1024) (oo j) S1024x1024.size (oo_inb j)).PackedRows (EltTy.packing .bf16)

variable {c : Dev nD}

abbrev Side.loR (B : Side c) (s : Fin 16) : Rect S1x4096x2048 :=
  Rect.unit (s := S1x4096x2048) (B.lo s) S1x128x1024.size (B.lo_inb s)
abbrev Side.boR (B : Side c) (j : Fin 4) : Rect S1x4096x2048 :=
  Rect.unit (s := S1x4096x2048) (B.bo j) S1x1024x1024.size (B.bo_inb j)
abbrev Side.ooR (B : Side c) (j : Fin 4) : Rect S4096x1024 :=
  Rect.unit (s := S4096x1024) (B.oo j) S1024x1024.size (B.oo_inb j)
abbrev Side.loM (B : Side c) (s : Fin 16) : Memref sig .tc .hbm S128x1024 .f32 :=
  (xM.slice (B.loR s) (fun _ => rfl)).squeeze S128x1024 squeezes_S1x128x1024_S128x1024
abbrev Side.boM (B : Side c) (j : Fin 4) : Memref sig .tc .hbm S1024x1024 .f32 :=
  (xM.slice (B.boR j) (fun _ => rfl)).squeeze S1024x1024 squeezes_S1x1024x1024_S1024x1024

/-- The side `x = 0`. -/
def sideA (c : Dev nD) (h : k0_cond1 c = 1#1) : Side c where
  lo s := k0_off1 c (BitVec.ofNat 32 (128 * s.val))
  lo_inb := k0_off1_inb c h
  bo j := k0_off2 c (k0_off2_at j).1 (k0_off2_at j).2.1 (k0_off2_at j).2.2
  bo_inb := k0_off2_inb c h
  oo j := if j.val < 2 then k0_off3 c (BitVec.ofNat 32 (1024 * (j.val % 2))) else k0_off4 c (BitVec.ofNat 32 (1024 * (j.val % 2)))
  oo_inb j := by
    split
    · exact k0_off3_inb c h ⟨j.val % 2, Nat.mod_lt _ (by decide)⟩
    · exact k0_off4_inb c h ⟨j.val % 2, Nat.mod_lt _ (by decide)⟩
  oo_packed j := by
    by_cases hj : j.val < 2
    · simp only [if_pos hj]; exact k0_off3_packedbf16 c h ⟨j.val % 2, Nat.mod_lt _ (by decide)⟩
    · simp only [if_neg hj]; exact k0_off4_packedbf16 c h ⟨j.val % 2, Nat.mod_lt _ (by decide)⟩

/-- The side `x = 1`. -/
def sideB (c : Dev nD) (h : k0_cond2 c = 1#1) : Side c where
  lo s := k0_off5 c (BitVec.ofNat 32 (128 * s.val))
  lo_inb := k0_off5_inb c h
  bo j := k0_off6 c (k0_off6_at j).1 (k0_off6_at j).2.1 (k0_off6_at j).2.2
  bo_inb := k0_off6_inb c h
  oo j := if j.val < 2 then k0_off7 c (BitVec.ofNat 32 (1024 * (j.val % 2))) else k0_off8 c (BitVec.ofNat 32 (1024 * (j.val % 2)))
  oo_inb j := by
    split
    · exact k0_off7_inb c h ⟨j.val % 2, Nat.mod_lt _ (by decide)⟩
    · exact k0_off8_inb c h ⟨j.val % 2, Nat.mod_lt _ (by decide)⟩
  oo_packed j := by
    by_cases hj : j.val < 2
    · simp only [if_pos hj]; exact k0_off7_packedbf16 c h ⟨j.val % 2, Nat.mod_lt _ (by decide)⟩
    · simp only [if_neg hj]; exact k0_off8_packedbf16 c h ⟨j.val % 2, Nat.mod_lt _ (by decide)⟩

/-! ## The steps -/

abbrev P (F : FTy → Type) [FloatOps F] : Type 1 := Prog (TpuEff nD τ sig (Elt F) Λ₀ .tc) PUnit

abbrev par (s : Fin 16) : Fin 2 := ⟨s.val % 2, Nat.mod_lt _ (by decide)⟩
abbrev par4 (j : Fin 4) : Fin 2 := ⟨j.val % 2, Nat.mod_lt _ (by decide)⟩

def loadStart (B : Side c) (s : Fin 16) : P F :=
  .lift (.enqueueDma (B.loM s) (.here (ldS (par s))) (.dma (sem2 cc0_scratch5 (par s)))
    ((View.wordExact_bits rfl).reshape _ _) ((View.wordExact_bits rfl).reshape _ _) ⟨Or.inl rfl, trivial⟩)

def loadWait (B : Side c) (s : Fin 16) : P F :=
  .lift (.waitDma2 (sem2 cc0_scratch5 (par s)) (B.loM s) (ldS (par s))
    ((View.wordExact_bits rfl).reshape _ _) ((View.wordExact_bits rfl).reshape _ _))

/-- A loaded chunk, rounded. -/
def rounded (v : Vec F S1x128x1024 .f32) : FVec F S128x1024 .bf16 :=
  shapeCast S128x1024 (truncf .bf16 (shapeCast S128x1024 v shapeCasts_S1x128x1024_S128x1024) bitsLt_bf16_f32) shapeCasts_S128x1024_S128x1024

/-- A loaded quarter, rounded, plus what came. -/
def added (v : Vec F S1x1024x1024 .f32) (w : Vec F S1024x1024 .bf16) : FVec F S1024x1024 .bf16 :=
  addf (truncf .bf16 (shapeCast S1024x1024 v shapeCasts_S1x1024x1024_S1024x1024) bitsLt_bf16_f32) w

/-- The chunk in slot `par s` rounded into the rows of `s` of the buffer sent along `x`. -/
def roundStore (s : Fin 16) : P F := do
  let v : Vec F S1x128x1024 .f32 ← .lift (.load ldM (ldR (par s)).toLoadRect (View.loadsAt_vmem h_S1x128x1024))
  let w : Vec F S128x1024 .bf16 ← .lift (.load xsM (rowR s).toLoadRect (View.loadsAt_vmem h_S128x1024))
  .lift (.store xsM (rowR s) (rounded v) Finset.univ
    (View.stores_vmem h_S128x1024 ((Memref.isWhole_whole _).storeExact_slice rfl _ (rows_packed s)) (fun _ => rfl)) (.inl rfl))

def xSend (c : Dev nD) (s : Fin 16) : P F :=
  .lift (.enqueueDma (rowM xsM s) (.remote (Dev.tc (xn c)) (rowM xrM s) (.dma (sem16 cc0_scratch7 s))) (.dma (sem16 cc0_scratch8 s))
    ((Memref.isWhole_whole _).wordExact_slice rfl _ (rows_words s)) ((Memref.isWhole_whole _).wordExact_slice rfl _ (rows_words s))
    ⟨⟨rfl, Or.inl rfl⟩, trivial⟩)

def xRecvWait (s : Fin 16) : P F :=
  .lift (.waitDma2 (sem16 cc0_scratch8 s) (rowM xsM s) (rowM xrM s)
    ((Memref.isWhole_whole _).wordExact_slice rfl _ (rows_words s)) ((Memref.isWhole_whole _).wordExact_slice rfl _ (rows_words s)))

def ySend (c : Dev nD) (s : Fin 16) : P F :=
  .lift (.enqueueDma (rowM xrM s) (.remote (Dev.tc (yn c)) (rowM yrM s) (.dma (sem16 cc0_scratch9 s))) (.dma (sem16 cc0_scratch10 s))
    ((Memref.isWhole_whole _).wordExact_slice rfl _ (rows_words s)) ((Memref.isWhole_whole _).wordExact_slice rfl _ (rows_words s))
    ⟨⟨rfl, Or.inl rfl⟩, trivial⟩)

def yRecvWait (s : Fin 16) : P F :=
  .lift (.waitDma2 (sem16 cc0_scratch10 s) (rowM xrM s) (rowM yrM s)
    ((Memref.isWhole_whole _).wordExact_slice rfl _ (rows_words s)) ((Memref.isWhole_whole _).wordExact_slice rfl _ (rows_words s)))

def xSendWait (s : Fin 16) : P F :=
  .lift (.waitDma2 (sem16 cc0_scratch7 s) (rowM xrM s) (rowM xsM s)
    ((Memref.isWhole_whole _).wordExact_slice rfl _ (rows_words s)) ((Memref.isWhole_whole _).wordExact_slice rfl _ (rows_words s)))

def ySendWait (s : Fin 16) : P F :=
  .lift (.waitDma2 (sem16 cc0_scratch9 s) (rowM yrM s) (rowM xrM s)
    ((Memref.isWhole_whole _).wordExact_slice rfl _ (rows_words s)) ((Memref.isWhole_whole _).wordExact_slice rfl _ (rows_words s)))

def bigStart (B : Side c) (j : Fin 4) : P F :=
  .lift (.enqueueDma (B.boM j) (.here (bigS (par4 j))) (.dma (sem2 cc0_scratch6 (par4 j)))
    ((View.wordExact_bits rfl).reshape _ _) ((View.wordExact_bits rfl).reshape _ _) ⟨Or.inl rfl, trivial⟩)

def bigWait (B : Side c) (j : Fin 4) : P F :=
  .lift (.waitDma2 (sem2 cc0_scratch6 (par4 j)) (B.boM j) (bigS (par4 j))
    ((View.wordExact_bits rfl).reshape _ _) ((View.wordExact_bits rfl).reshape _ _))

/-- Quarter `j` of the result: the loaded quarter rounded, plus what came from the neighbour, in `M`. -/
def addStore (B : Side c) (j : Fin 4) (M : Memref sig .tc .vmem S2048x1024 .bf16) : P F := do
  let v : Vec F S1x1024x1024 .f32 ← .lift (.load bigM (bigR (par4 j)).toLoadRect (View.loadsAt_vmem h_S1x1024x1024))
  let w : Vec F S1024x1024 .bf16 ← .lift (.load M (halfR (par4 j)).toLoadRect (View.loadsAt_vmem h_S1024x1024))
  let z : Vec F S1024x1024 .bf16 ← .lift (.load outM (B.ooR j).toLoadRect (View.loadsAt_vmem h_S1024x1024))
  .lift (.store outM (B.ooR j) (added v w) Finset.univ
    (View.stores_vmem h_S1024x1024 ((Memref.isWhole_whole _).storeExact_slice rfl _ (B.oo_packed j)) (fun _ => rfl)) (.inl rfl))

/-! ## The line -/

/-- `f` at `n` successive chunks from `i` on. -/
def iter (f : Fin 16 → P F) : (n i : Nat) → i + n ≤ 16 → P F
  | 0, _, _ => .ret ⟨⟩
  | n + 1, i, h => f ⟨i, by omega⟩ >>= fun _ => iter f n (i + 1) (by omega)

/-- The second exchange of chunk `s`: the chunk has come along `x`, and goes on along `y`. -/
def forward (c : Dev nD) (s : Fin 16) : P F := xRecvWait s >>= fun _ => ySend c s

/-- Chunk `s` of the stream. -/
def stream (B : Side c) (s : Fin 16) : P F :=
  (if h : s.val + 1 < 16 then loadStart B ⟨s.val + 1, h⟩ else .ret ⟨⟩) >>= fun _ =>
  loadWait B s >>= fun _ => roundStore s >>= fun _ => xSend c s >>= fun _ =>
  if h : 4 ≤ s.val then forward c ⟨s.val - 4, by omega⟩ else .ret ⟨⟩

/-- Quarter `j` of the result. -/
def quarter (B : Side c) (j : Fin 4) : P F :=
  (if h : j.val + 1 < 4 then bigStart B ⟨j.val + 1, h⟩ else .ret ⟨⟩) >>= fun _ =>
  bigWait B j >>= fun _ =>
  if h : j.val < 2 then addStore B j xrM
  else iter yRecvWait 8 (8 * (j.val - 2)) (by omega) >>= fun _ => addStore B j yrM

/-- What one side of the mesh axis `x` runs. -/
def side (B : Side c) : P F :=
  loadStart B 0 >>= fun _ => iter (stream B) 16 0 (by decide) >>= fun _ => iter (forward c) 4 12 (by decide) >>= fun _ =>
  bigStart B 0 >>= fun _ => quarter B 0 >>= fun _ => quarter B 1 >>= fun _ => quarter B 2 >>= fun _ => quarter B 3

/-- The end of chunk `s`: both of its sends have left. -/
def finish (s : Fin 16) : P F := xSendWait s >>= fun _ => ySendWait s

abbrev barrier : Sem sig := (SemArray.scalar (sig.barrier 0 rfl) : Sems sig S_).sem

/-- A device's number and the words the kernel computes from it before its branches. -/
abbrev Words : Type :=
  Σ' (d0 : Dev nD) (v2 : BitVec 32) (v5 : BitVec 32) (v8 : BitVec 32) (v9 : BitVec 32) (v10 : BitVec 32) (v11 : BitVec 32), BitVec 32

def words (d0 : Dev nD) : Words :=
  ⟨d0, Scalar.remsi (Scalar.divsi (Dev.word d0) 8#32) 2#32, Scalar.remsi (Scalar.divsi (Dev.word d0) 4#32) 2#32,
    Scalar.remsi (Scalar.divsi (Dev.word d0) 1#32) 4#32,
    Scalar.subi 1#32 (Scalar.remsi (Scalar.divsi (Dev.word d0) 8#32) 2#32),
    Scalar.subi 1#32 (Scalar.remsi (Scalar.divsi (Dev.word d0) 4#32) 2#32),
    Scalar.muli (Scalar.remsi (Scalar.divsi (Dev.word d0) 4#32) 2#32) 2048#32,
    Scalar.muli (Scalar.subi 1#32 (Scalar.remsi (Scalar.divsi (Dev.word d0) 4#32) 2#32)) 2048#32⟩

/-- The kernel: both neighbours are told this device is in the kernel, and it waits to be told so by both; then the
    side it is on, and the ends of the sends. -/
def line : P F :=
  (Prog.lift .deviceId >>= fun d0 : Dev nD =>
    semSignalWord (xn d0) barrier 1#32 >>= fun _ => semSignalWord (yn d0) barrier 1#32 >>= fun _ =>
    semWaitWord barrier 2#32 >>= fun _ =>
    if h : k0_cond1 d0 = 1#1 then side (sideA d0 h) >>= fun _ => .ret (words d0) else .ret (words d0))
  >>= fun t =>
  (if h : k0_cond2 t.1 = 1#1 then side (sideB t.1 h) >>= fun _ => iter finish 2 0 (by decide) else iter finish 2 0 (by decide))
  >>= fun _ => iter finish 14 2 (by decide)

set_option maxRecDepth 100000 in
/-- The printed kernel is the line. -/
theorem body_eq (t : Fin cfg0.N) : bodyAt0 (F := F) t = line := by
  sl_kernel_rfl

end Cert.KernelIdeal.Line

end
-- ==== Proof.Contents.lean ====
/-
# What the buffers hold, and where

The rows a chunk lies in as sets of indices, the closed form of the offsets of both sides of the mesh axis `x`, and the
contents each buffer comes to hold, each as one function on the whole buffer: a chunk's transfer writes what that
function says on the rows of the chunk.
-/
module

public import proofs.«01_k».proof.Proof.Steps

@[expose] public section

noncomputable section

namespace Cert.KernelIdeal.Line

open Cert.KernelIdeal Cert.KernelIdeal.Gen
open Idealize.ShloMosaic Idealize.ShloMosaic.TcCoe Idealize.SL.Sem

variable {F : FTy → Type} [FloatOps F]

/-! ## The neighbours -/

theorem xn_xn (c : Dev nD) : xn (xn c) = c := by revert c; decide +kernel
theorem yn_yn (c : Dev nD) : yn (yn c) = c := by revert c; decide +kernel
theorem xn_val (c : Dev nD) : (xn c).val = (c.val + 8) % 16 := by revert c; decide +kernel
theorem yn_val (c : Dev nD) : (yn c).val = if c.val % 8 < 4 then c.val + 4 else c.val - 4 := by revert c; decide +kernel

def xnE : Dev nD ≃ Dev nD := ⟨xn, xn, xn_xn, xn_xn⟩
def ynE : Dev nD ≃ Dev nD := ⟨yn, yn, yn_yn, yn_yn⟩

/-! ## Where the pieces lie -/

/-- The first of the rows this device exchanges along `x`. -/
def p1 (c : Dev nD) : ℕ := 2048 * (c.val / 4 % 2)
/-- The first of the rows that come along `y`. -/
def p2 (c : Dev nD) : ℕ := 2048 - 2048 * (c.val / 4 % 2)
/-- The first column of the neighbour's half. -/
def theirs (c : Dev nD) : ℕ := 1024 - 1024 * (c.val / 8)
/-- The first column of this device's half. -/
def mine (c : Dev nD) : ℕ := 1024 * (c.val / 8)
/-- The first row of quarter `j`. -/
def rowB (c : Dev nD) (j : Fin 4) : ℕ := if j.val < 2 then p1 c + 1024 * (j.val % 2) else p2 c + 1024 * (j.val % 2)

theorem dev_lt (c : Dev nD) : c.val < 16 := c.isLt

theorem p1_xn (c : Dev nD) : p1 (xn c) = p1 c := by revert c; decide +kernel
theorem p1_yn (c : Dev nD) : p1 (yn c) = p2 c := by revert c; decide +kernel
theorem theirs_xn (c : Dev nD) : theirs (xn c) = mine c := by revert c; decide +kernel
theorem theirs_yn (c : Dev nD) : theirs (yn c) = theirs c := by revert c; decide +kernel
theorem mine_yn (c : Dev nD) : mine (yn c) = mine c := by revert c; decide +kernel
theorem p1_le (c : Dev nD) : p1 c ≤ 2048 := by revert c; decide +kernel
theorem p2_le (c : Dev nD) : p2 c ≤ 2048 := by revert c; decide +kernel
theorem theirs_le (c : Dev nD) : theirs c ≤ 1024 := by revert c; decide +kernel
theorem mine_le (c : Dev nD) : mine c ≤ 1024 := by revert c; decide +kernel
theorem rowB_le (c : Dev nD) (j : Fin 4) : rowB c j ≤ 3072 := by revert c j; decide +kernel

/-- A side's offsets are the ones the device's place in the mesh gives. -/
structure Side.Good {c : Dev nD} (B : Side c) : Prop where
  lo : ∀ s, B.lo s = ![0, p1 c + 128 * s.val, theirs c]
  bo : ∀ j, B.bo j = ![0, rowB c j, mine c]
  oo : ∀ j, B.oo j = ![rowB c j, 0]

theorem cond1_iff (c : Dev nD) : k0_cond1 c = 1#1 ↔ c.val < 8 := by revert c; decide +kernel
theorem cond2_iff (c : Dev nD) : k0_cond2 c = 1#1 ↔ ¬ c.val < 8 := by revert c; decide +kernel

theorem off2_eq : ∀ c : Dev nD, c.val < 8 → ∀ j : Fin 4,
    k0_off2 c (k0_off2_at j).1 (k0_off2_at j).2.1 (k0_off2_at j).2.2 = ![0, rowB c j, mine c] := by decide +kernel
theorem off6_eq : ∀ c : Dev nD, ¬ c.val < 8 → ∀ j : Fin 4,
    k0_off6 c (k0_off6_at j).1 (k0_off6_at j).2.1 (k0_off6_at j).2.2 = ![0, rowB c j, mine c] := by decide +kernel

theorem sideA_good (c : Dev nD) (h : k0_cond1 c = 1#1) : (sideA c h).Good := by
  have hc := (cond1_iff c).mp h
  refine ⟨fun s => ?_, fun j => off2_eq c hc j, fun j => ?_⟩
  · show k0_off1 c _ = _
    rw [k0_off1_eq]
    have : theirs c = 1024 := by unfold theirs; omega
    rw [this]; rfl
  · show (if j.val < 2 then k0_off3 c _ else k0_off4 c _) = _
    rw [k0_off3_eq c ⟨j.val % 2, Nat.mod_lt _ (by decide)⟩, k0_off4_eq c ⟨j.val % 2, Nat.mod_lt _ (by decide)⟩]
    unfold rowB p1 p2
    split
    · rfl
    · congr 1; dsimp only; omega

theorem sideB_good (c : Dev nD) (h : k0_cond2 c = 1#1) : (sideB c h).Good := by
  have hc := (cond2_iff c).mp h
  have hl := dev_lt c
  refine ⟨fun s => ?_, fun j => off6_eq c hc j, fun j => ?_⟩
  · show k0_off5 c _ = _
    rw [k0_off5_eq]
    have : theirs c = 0 := by unfold theirs; omega
    rw [this]; rfl
  · show (if j.val < 2 then k0_off7 c _ else k0_off8 c _) = _
    rw [k0_off7_eq c ⟨j.val % 2, Nat.mod_lt _ (by decide)⟩, k0_off8_eq c ⟨j.val % 2, Nat.mod_lt _ (by decide)⟩]
    unfold rowB p1 p2
    split
    · rfl
    · congr 1; dsimp only; omega

/-! ## Index sets -/

/-- The rows from `a` up to `b`. -/
def span (a b : ℕ) : Finset S2048x1024.Idx := Finset.univ.filter fun i => a ≤ (i 0).val ∧ (i 0).val < b

theorem mem_span {a b : ℕ} {i : S2048x1024.Idx} : i ∈ span a b ↔ a ≤ (i 0).val ∧ (i 0).val < b := by
  unfold span; rw [Finset.mem_filter]; exact and_iff_right (Finset.mem_univ _)
theorem span_empty (a : ℕ) : span a a = ∅ := by
  ext i; rw [mem_span]; constructor
  · intro h; omega
  · intro h; exact absurd h (Finset.notMem_empty _)
theorem span_univ : span 0 2048 = Finset.univ := by
  ext i; rw [mem_span]; exact ⟨fun _ => Finset.mem_univ _, fun _ => ⟨Nat.zero_le _, (i 0).isLt⟩⟩
theorem span_union {a b d : ℕ} (h : a ≤ b) (h' : b ≤ d) : span a b ∪ span b d = span a d := by
  ext i; rw [Finset.mem_union, mem_span, mem_span, mem_span]; omega
theorem span_disjoint {a b d : ℕ} : Disjoint (span a b) (span b d) := by
  rw [Finset.disjoint_left]; intro i; rw [mem_span, mem_span]; omega
theorem span_subset {a b a' b' : ℕ} (h : a' ≤ a) (h' : b ≤ b') : span a b ⊆ span a' b' := by
  intro i; rw [mem_span, mem_span]; omega

theorem rowR_set (s : Fin 16) : (rowR s).set = span (128 * s.val) (128 * (s.val + 1)) := by
  ext i; rw [Rect.mem_set_unit, mem_span]
  constructor
  · intro h
    have h0 : 128 * s.val ≤ (i 0).val ∧ (i 0).val < 128 * s.val + 128 := h 0
    omega
  · intro h a
    match a with
    | ⟨0, _⟩ => show 128 * s.val ≤ (i 0).val ∧ (i 0).val < 128 * s.val + 128; omega
    | ⟨1, _⟩ => have h1 : (i 1).val < 1024 := (i 1).isLt; show 0 ≤ (i 1).val ∧ (i 1).val < 0 + 1024; omega

theorem halfR_set (h : Fin 2) : (halfR h).set = span (1024 * h.val) (1024 * (h.val + 1)) := by
  ext i; rw [Rect.mem_set_unit, mem_span]
  constructor
  · intro hh
    have h0 : 1024 * h.val ≤ (i 0).val ∧ (i 0).val < 1024 * h.val + 1024 := hh 0
    omega
  · intro hh a
    match a with
    | ⟨0, _⟩ => show 1024 * h.val ≤ (i 0).val ∧ (i 0).val < 1024 * h.val + 1024; omega
    | ⟨1, _⟩ => have h1 : (i 1).val < 1024 := (i 1).isLt; show 0 ≤ (i 1).val ∧ (i 1).val < 0 + 1024; omega

/-! ## Contents -/

/-- One element rounded. -/
def rnd (v : Elt F .f32) : Elt F .bf16 := FloatOps.truncf (F := F) (φ := .f32) .bf16 bitsLt_bf16_f32 v

/-- The index of row `r`, column `k` of a device's operand. -/
def at3 (r k : ℕ) : S1x4096x2048.Idx := fun a => match a with
  | ⟨0, _⟩ => (⟨0, by decide⟩ : Fin 1)
  | ⟨1, _⟩ => (⟨r % 4096, Nat.mod_lt _ (by decide)⟩ : Fin 4096)
  | ⟨2, _⟩ => (⟨k % 2048, Nat.mod_lt _ (by decide)⟩ : Fin 2048)

theorem eq_at3 {i : S1x4096x2048.Idx} {r k : ℕ} (hr : (i 1).val = r) (hk : (i 2).val = k) : i = at3 r k := by
  funext a
  match a with
  | ⟨0, _⟩ => exact Fin.ext (by have : (i 0).val < 1 := (i 0).isLt; show (i 0).val = 0; omega)
  | ⟨1, _⟩ => exact Fin.ext (by have : (i 1).val < 4096 := (i 1).isLt; show (i 1).val = r % 4096; omega)
  | ⟨2, _⟩ => exact Fin.ext (by have : (i 2).val < 2048 := (i 2).isLt; show (i 2).val = k % 2048; omega)

variable (m : (ℓ : Loc nD τ sig) → Buf (Elt F) ℓ)

/-- Device `c`'s operand. -/
def X (c : Dev nD) : S1x4096x2048.Idx → Elt F .f32 := m ((c : Thread nD τ).loc main_arg0)

/-- Chunk `s` of the operand, in either slot of the double buffer. -/
def ldC (c : Dev nD) (s : ℕ) : S2x128x1024.Idx → Elt F .f32 :=
  fun i => X m c (at3 (p1 c + 128 * s + (i 1).val) (theirs c + (i 2).val))
/-- Quarter `j` of this device's half of the operand, in either slot of the double buffer. -/
def bigC (c : Dev nD) (j : Fin 4) : S2x1024x1024.Idx → Elt F .f32 :=
  fun i => X m c (at3 (rowB c j + (i 1).val) (mine c + (i 2).val))
/-- What device `c` sends along `x`. -/
def xsC (c : Dev nD) : S2048x1024.Idx → Elt F .bf16 :=
  fun i => rnd (X m c (at3 (p1 c + (i 0).val) (theirs c + (i 1).val)))
/-- What comes to device `c` along `x`. -/
def xrC (c : Dev nD) : S2048x1024.Idx → Elt F .bf16 := xsC m (xn c)
/-- What comes to device `c` along `y`. -/
def yrC (c : Dev nD) : S2048x1024.Idx → Elt F .bf16 := xrC m (yn c)
/-- The device whose operand is added to row `r` of the result of device `c`. -/
def other (c : Dev nD) (r : ℕ) : Dev nD := if r / 2048 = c.val / 4 % 2 then xn c else xn (yn c)
/-- What device `c` computes. -/
def outC (c : Dev nD) : S4096x1024.Idx → Elt F .bf16 :=
  fun i => FloatOps.addf (F := F) (φ := .bf16) (rnd (X m c (at3 (i 0).val (mine c + (i 1).val))))
    (rnd (X m (other c (i 0).val) (at3 (i 0).val (mine c + (i 1).val))))

theorem xrC_at (c : Dev nD) (i : S2048x1024.Idx) :
    xrC m c i = rnd (X m (xn c) (at3 (p1 c + (i 0).val) (mine c + (i 1).val))) := by
  unfold xrC xsC; rw [p1_xn, theirs_xn]

theorem yrC_at (c : Dev nD) (i : S2048x1024.Idx) :
    yrC m c i = rnd (X m (xn (yn c)) (at3 (p2 c + (i 0).val) (mine c + (i 1).val))) := by
  unfold yrC; rw [xrC_at, p1_yn, mine_yn]

end Cert.KernelIdeal.Line

end
-- ==== Proof.Moves.lean ====
/-
# What the transfers and the stores write

Each transfer and each store of the line writes, on the elements it covers, what the contents of the buffer say there.
-/
module

public import proofs.«01_k».proof.Proof.Contents
public import Idealize.ShloMosaic.Lib.Pipeline.Value

@[expose] public section

noncomputable section

namespace Cert.KernelIdeal.Line

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) {c : Dev nD} {B : Side c}

/-! ## The element sets -/

theorem rowM_set_xs (s : Fin 16) : (rowM xsM s).view.set = span (128 * s.val) (128 * (s.val + 1)) :=
  (View.set_slice_whole _ _).trans (rowR_set s)
theorem rowM_set_xr (s : Fin 16) : (rowM xrM s).view.set = span (128 * s.val) (128 * (s.val + 1)) :=
  (View.set_slice_whole _ _).trans (rowR_set s)
theorem rowM_set_yr (s : Fin 16) : (rowM yrM s).view.set = span (128 * s.val) (128 * (s.val + 1)) :=
  (View.set_slice_whole _ _).trans (rowR_set s)

/-- The elements of slot `b` of the chunks' double buffer. -/
def ldI (b : Fin 2) : Finset S2x128x1024.Idx := (ldR b).set
/-- The elements of slot `b` of the quarters' double buffer. -/
def bigI (b : Fin 2) : Finset S2x1024x1024.Idx := (bigR b).set

theorem ldS_set (b : Fin 2) : (ldS b).view.set = ldI b := (View.set_reshape _ _).trans (View.set_slice_whole _ _)
theorem bigS_set (b : Fin 2) : (bigS b).view.set = bigI b := (View.set_reshape _ _).trans (View.set_slice_whole _ _)

theorem ldI_disj : Disjoint (ldI 0) (ldI 1) := Rect.unit_disjoint 0 (Or.inl (by decide))
theorem bigI_disj : Disjoint (bigI 0) (bigI 1) := Rect.unit_disjoint 0 (Or.inl (by decide))
theorem ldI_univ : ldI 0 ∪ ldI 1 = Finset.univ := by
  ext i
  rw [Finset.mem_union]
  refine ⟨fun _ => Finset.mem_univ _, fun _ => ?_⟩
  have h0 : (i 0).val < 2 := (i 0).isLt
  have h1 : (i 1).val < 128 := (i 1).isLt
  have h2 : (i 2).val < 1024 := (i 2).isLt
  rcases Nat.lt_or_ge (i 0).val 1 with h | h
  · exact .inl (Rect.mem_set_unit.mpr fun a => match a with
      | ⟨0, _⟩ => by show 0 ≤ (i 0).val ∧ (i 0).val < 0 + 1; omega
      | ⟨1, _⟩ => by show 0 ≤ (i 1).val ∧ (i 1).val < 0 + 128; omega
      | ⟨2, _⟩ => by show 0 ≤ (i 2).val ∧ (i 2).val < 0 + 1024; omega)
  · exact .inr (Rect.mem_set_unit.mpr fun a => match a with
      | ⟨0, _⟩ => by show 1 ≤ (i 0).val ∧ (i 0).val < 1 + 1; omega
      | ⟨1, _⟩ => by show 0 ≤ (i 1).val ∧ (i 1).val < 0 + 128; omega
      | ⟨2, _⟩ => by show 0 ≤ (i 2).val ∧ (i 2).val < 0 + 1024; omega)
theorem bigI_univ : bigI 0 ∪ bigI 1 = Finset.univ := by
  ext i
  rw [Finset.mem_union]
  refine ⟨fun _ => Finset.mem_univ _, fun _ => ?_⟩
  have h0 : (i 0).val < 2 := (i 0).isLt
  have h1 : (i 1).val < 1024 := (i 1).isLt
  have h2 : (i 2).val < 1024 := (i 2).isLt
  rcases Nat.lt_or_ge (i 0).val 1 with h | h
  · exact .inl (Rect.mem_set_unit.mpr fun a => match a with
      | ⟨0, _⟩ => by show 0 ≤ (i 0).val ∧ (i 0).val < 0 + 1; omega
      | ⟨1, _⟩ => by show 0 ≤ (i 1).val ∧ (i 1).val < 0 + 1024; omega
      | ⟨2, _⟩ => by show 0 ≤ (i 2).val ∧ (i 2).val < 0 + 1024; omega)
  · exact .inr (Rect.mem_set_unit.mpr fun a => match a with
      | ⟨0, _⟩ => by show 1 ≤ (i 0).val ∧ (i 0).val < 1 + 1; omega
      | ⟨1, _⟩ => by show 0 ≤ (i 1).val ∧ (i 1).val < 0 + 1024; omega
      | ⟨2, _⟩ => by show 0 ≤ (i 2).val ∧ (i 2).val < 0 + 1024; omega)

/-! ## The transfers -/

/-- Where a view's element lies, from its membership in the view's set. -/
theorem mem_view {sp : Space} {s : Shape} {e : EltTy} {v : View sig .tc sp s e} {i : v.ty.Idx} (h : i ∈ v.set) :
    ∃ x, v.emb x = i := by
  obtain ⟨x, -, hx⟩ := Finset.mem_map.mp h
  exact ⟨x, hx⟩

theorem emb_val {s : Shape} (r : Rect s) (hs : ∀ a, r.stride a = 1) (x : r.shape.Idx) (a : Fin s.rank) :
    ((r.emb x a : Fin _) : ℕ) = r.off a + (x a : ℕ) := by
  show r.off a + r.stride a * (x a : ℕ) = _
  rw [hs, Nat.one_mul]

theorem load_write (hB : B.Good) (s : Fin 16) (f : S2x128x1024.Idx → Elt F .f32) :
    ∀ i ∈ ldI (par s), (ldS (par s)).view.write (Elt F) f ((B.loM s).view.read (Elt F) (X m c)) Finset.univ i = ldC m c s.val i := by
  intro i hi
  rw [← ldS_set] at hi
  obtain ⟨x, rfl⟩ := mem_view hi
  rw [View.write_emb_of_mem _ _ (Finset.mem_univ x)]
  show X m c ((B.loR s).emb (Shape.reshapeEquiv _ x)) = ldC m c s.val ((ldR (par s)).emb (Shape.reshapeEquiv _ x))
  unfold ldC
  generalize Shape.reshapeEquiv _ x = k
  have e1 := emb_val (B.loR s) (fun _ => rfl) k 1
  have e2 := emb_val (B.loR s) (fun _ => rfl) k 2
  have g1 := emb_val (ldR (par s)) (fun _ => rfl) k 1
  have g2 := emb_val (ldR (par s)) (fun _ => rfl) k 2
  refine congrArg _ (eq_at3 ?_ ?_)
  · rw [e1, g1]; show B.lo s 1 + _ = _ + (0 + _); rw [hB.lo]
    show p1 c + 128 * s.val + _ = _; rw [Nat.zero_add]
  · rw [e2, g2]; show B.lo s 2 + _ = _ + (0 + _); rw [hB.lo]
    show theirs c + _ = _; rw [Nat.zero_add]

theorem big_write (hB : B.Good) (j : Fin 4) (f : S2x1024x1024.Idx → Elt F .f32) :
    ∀ i ∈ bigI (par4 j), (bigS (par4 j)).view.write (Elt F) f ((B.boM j).view.read (Elt F) (X m c)) Finset.univ i = bigC m c j i := by
  intro i hi
  rw [← bigS_set] at hi
  obtain ⟨x, rfl⟩ := mem_view hi
  rw [View.write_emb_of_mem _ _ (Finset.mem_univ x)]
  show X m c ((B.boR j).emb (Shape.reshapeEquiv _ x)) = bigC m c j ((bigR (par4 j)).emb (Shape.reshapeEquiv _ x))
  unfold bigC
  generalize Shape.reshapeEquiv _ x = k
  have e1 := emb_val (B.boR j) (fun _ => rfl) k 1
  have e2 := emb_val (B.boR j) (fun _ => rfl) k 2
  have g1 := emb_val (bigR (par4 j)) (fun _ => rfl) k 1
  have g2 := emb_val (bigR (par4 j)) (fun _ => rfl) k 2
  refine congrArg _ (eq_at3 ?_ ?_)
  · rw [e1, g1]; show B.bo j 1 + _ = _ + (0 + _); rw [hB.bo]
    show rowB c j + _ = _; rw [Nat.zero_add]
  · rw [e2, g2]; show B.bo j 2 + _ = _ + (0 + _); rw [hB.bo]
    show mine c + _ = _; rw [Nat.zero_add]

/-- A transfer of a chunk's rows along `x` copies them. -/
theorem xsend_write (s : Fin 16) (f g : S2048x1024.Idx → Elt F .bf16) :
    ∀ i ∈ (rowM xrM s).view.set, (rowM xrM s).view.write (Elt F) f ((rowM xsM s).view.read (Elt F) g) Finset.univ i = g i := by
  intro i hi
  obtain ⟨x, rfl⟩ := mem_view hi
  rw [View.write_emb_of_mem _ _ (Finset.mem_univ x)]; rfl
/-- A transfer of a chunk's rows along `y` copies them. -/
theorem ysend_write (s : Fin 16) (f g : S2048x1024.Idx → Elt F .bf16) :
    ∀ i ∈ (rowM yrM s).view.set, (rowM yrM s).view.write (Elt F) f ((rowM xrM s).view.read (Elt F) g) Finset.univ i = g i := by
  intro i hi
  obtain ⟨x, rfl⟩ := mem_view hi
  rw [View.write_emb_of_mem _ _ (Finset.mem_univ x)]; rfl

/-! ## The stores -/

theorem rounded_at (v : Vec F S1x128x1024 .f32) (i : S128x1024.Idx) :
    rounded v i = rnd (v (Fin.cons ⟨0, Nat.one_pos⟩ i)) := by
  unfold rounded
  rw [shapeCast_self]
  show rnd (shapeCast S128x1024 v _ i) = _
  exact congrArg rnd (shapeCast_dropUnit_apply ![128, 1024] v _ i)

theorem added_at (v : Vec F S1x1024x1024 .f32) (w : Vec F S1024x1024 .bf16) (i : S1024x1024.Idx) :
    added v w i = FloatOps.addf (F := F) (φ := .bf16) (rnd (v (Fin.cons ⟨0, Nat.one_pos⟩ i))) (w i) := by
  show FloatOps.addf (F := F) (φ := .bf16) (rnd (shapeCast S1024x1024 v _ i)) (w i) = _
  exact congrArg (fun z => FloatOps.addf (F := F) (φ := .bf16) (rnd z) (w i)) (shapeCast_dropUnit_apply ![1024, 1024] v _ i)

theorem round_write (s : Fin 16) (f : S2048x1024.Idx → Elt F .bf16) :
    ∀ i ∈ (rowM xsM s).view.set, (xsM.access (rowR s)).write (Elt F) f
      (rounded (ldM.view.readAt (Elt F) (ldR (par s)).toLoadRect (ldC m c s.val))) Finset.univ i = xsC m c i := by
  intro i hi
  obtain ⟨x, rfl⟩ := mem_view hi
  refine (View.write_emb_of_mem (v := xsM.access (rowR s)) _ _ (Finset.mem_univ x)).trans ?_
  show rounded _ x = _
  rw [rounded_at]
  show rnd (ldC m c s.val ((ldR (par s)).emb (Fin.cons ⟨0, Nat.one_pos⟩ x))) = xsC m c ((rowR s).emb x)
  unfold ldC xsC
  have g1 := emb_val (ldR (par s)) (fun _ => rfl) (Fin.cons ⟨0, Nat.one_pos⟩ x) 1
  have g2 := emb_val (ldR (par s)) (fun _ => rfl) (Fin.cons ⟨0, Nat.one_pos⟩ x) 2
  have e1 := emb_val (rowR s) (fun _ => rfl) x 0
  have e2 := emb_val (rowR s) (fun _ => rfl) x 1
  have a1 : (((ldR (par s)).emb (Fin.cons ⟨0, Nat.one_pos⟩ x) 1 : Fin _) : ℕ) = (x 0).val := g1.trans (Nat.zero_add _)
  have a2 : (((ldR (par s)).emb (Fin.cons ⟨0, Nat.one_pos⟩ x) 2 : Fin _) : ℕ) = (x 1).val := g2.trans (Nat.zero_add _)
  have b1 : (((rowR s).emb x 0 : Fin _) : ℕ) = 128 * s.val + (x 0).val := e1
  have b2 : (((rowR s).emb x 1 : Fin _) : ℕ) = (x 1).val := e2.trans (Nat.zero_add _)
  rw [a1, a2, b1, b2, Nat.add_assoc]

theorem rowB_mod (c : Dev nD) (j : Fin 4) : rowB c j % 1024 = 0 := by revert c j; decide +kernel
theorem other_x : ∀ (c : Dev nD) (j : Fin 4), j.val < 2 → other c (rowB c j) = xn c := by decide +kernel
theorem other_y : ∀ (c : Dev nD) (j : Fin 4), ¬ j.val < 2 → other c (rowB c j) = xn (yn c) := by decide +kernel

/-- Quarter `j` of the result, stored. -/
theorem add_write (hB : B.Good) (j : Fin 4) (f : S4096x1024.Idx → Elt F .bf16) (w : Vec F S1024x1024 .bf16)
    (hw : ∀ i, w i = rnd (X m (other c (rowB c j)) (at3 (rowB c j + (i 0).val) (mine c + (i 1).val)))) :
    ∀ i ∈ (outM.access (B.ooR j)).set, (outM.access (B.ooR j)).write (Elt F) f
      (added (bigM.view.readAt (Elt F) (bigR (par4 j)).toLoadRect (bigC m c j)) w) Finset.univ i = outC m c i := by
  intro i hi
  obtain ⟨x, rfl⟩ := mem_view hi
  refine (View.write_emb_of_mem (v := outM.access (B.ooR j)) _ _ (Finset.mem_univ x)).trans ?_
  show added _ w x = _
  rw [added_at, hw]
  show FloatOps.addf (F := F) (φ := .bf16) (rnd (bigC m c j ((bigR (par4 j)).emb (Fin.cons ⟨0, Nat.one_pos⟩ x)))) _
    = outC m c ((B.ooR j).emb x)
  unfold bigC outC
  have g1 := emb_val (bigR (par4 j)) (fun _ => rfl) (Fin.cons ⟨0, Nat.one_pos⟩ x) 1
  have g2 := emb_val (bigR (par4 j)) (fun _ => rfl) (Fin.cons ⟨0, Nat.one_pos⟩ x) 2
  have e1 := emb_val (B.ooR j) (fun _ => rfl) x 0
  have e2 := emb_val (B.ooR j) (fun _ => rfl) x 1
  have a1 : (((bigR (par4 j)).emb (Fin.cons ⟨0, Nat.one_pos⟩ x) 1 : Fin _) : ℕ) = (x 0).val := g1.trans (Nat.zero_add _)
  have a2 : (((bigR (par4 j)).emb (Fin.cons ⟨0, Nat.one_pos⟩ x) 2 : Fin _) : ℕ) = (x 1).val := g2.trans (Nat.zero_add _)
  have b1 : (((B.ooR j).emb x 0 : Fin _) : ℕ) = rowB c j + (x 0).val := by
    rw [e1]; show B.oo j 0 + _ = _; rw [hB.oo]; rfl
  have b2 : (((B.ooR j).emb x 1 : Fin _) : ℕ) = (x 1).val := by
    rw [e2]; show B.oo j 1 + _ = _; rw [hB.oo]; exact Nat.zero_add _
  rw [a1, a2, b1, b2]
  have hx : (x 0).val < 1024 := (x 0).isLt
  have ho : other c (rowB c j + (x 0).val) = other c (rowB c j) := by
    unfold other
    have : (rowB c j + (x 0).val) / 2048 = rowB c j / 2048 := by
      have hd := rowB_mod c j
      omega
    rw [this]
  rw [ho]

/-- What came along `x`, as the first two quarters need it. -/
theorem half_x (j : Fin 4) (hj : j.val < 2) (i : S1024x1024.Idx) :
    xrM.view.readAt (Elt F) (halfR (par4 j)).toLoadRect (xrC m c) i
      = rnd (X m (other c (rowB c j)) (at3 (rowB c j + (i 0).val) (mine c + (i 1).val))) := by
  show xrC m c ((halfR (par4 j)).emb i) = _
  rw [xrC_at]
  have e1 : (((halfR (par4 j)).emb i 0 : Fin _) : ℕ) = 1024 * (j.val % 2) + (i 0).val := emb_val (halfR (par4 j)) (fun _ => rfl) i 0
  have e2 : (((halfR (par4 j)).emb i 1 : Fin _) : ℕ) = (i 1).val := (emb_val (halfR (par4 j)) (fun _ => rfl) i 1).trans (Nat.zero_add _)
  have ho : other c (rowB c j) = xn c := other_x c j hj
  rw [e1, e2, ho, show rowB c j = p1 c + 1024 * (j.val % 2) from if_pos hj, Nat.add_assoc]

/-- What came along `y`, as the last two quarters need it. -/
theorem half_y (j : Fin 4) (hj : ¬ j.val < 2) (i : S1024x1024.Idx) :
    yrM.view.readAt (Elt F) (halfR (par4 j)).toLoadRect (yrC m c) i
      = rnd (X m (other c (rowB c j)) (at3 (rowB c j + (i 0).val) (mine c + (i 1).val))) := by
  show yrC m c ((halfR (par4 j)).emb i) = _
  rw [yrC_at]
  have e1 : (((halfR (par4 j)).emb i 0 : Fin _) : ℕ) = 1024 * (j.val % 2) + (i 0).val := emb_val (halfR (par4 j)) (fun _ => rfl) i 0
  have e2 : (((halfR (par4 j)).emb i 1 : Fin _) : ℕ) = (i 1).val := (emb_val (halfR (par4 j)) (fun _ => rfl) i 1).trans (Nat.zero_add _)
  have ho : other c (rowB c j) = xn (yn c) := other_y c j hj
  rw [e1, e2, ho, show rowB c j = p2 c + 1024 * (j.val % 2) from if_neg hj, Nat.add_assoc]

/-- The four quarters cover the result. -/
theorem quarters_cover (hB : B.Good) (i : S4096x1024.Idx) : ∃ j : Fin 4, i ∈ (outM.access (B.ooR j)).set := by
  have hi : (i 0).val < 4096 := (i 0).isLt
  have h1 : (i 1).val < 1024 := (i 1).isLt
  have hq : ∀ (c : Dev nD) (q : Fin 4), ∃ j : Fin 4, rowB c j = 1024 * q.val := by decide +kernel
  obtain ⟨j, hj⟩ := hq c ⟨(i 0).val / 1024, by omega⟩
  refine ⟨j, ?_⟩
  rw [View.set_slice_whole]
  have e0 : B.oo j 0 = rowB c j := by rw [hB.oo]; rfl
  have e1 : B.oo j 1 = 0 := by rw [hB.oo]; rfl
  refine Rect.mem_set_unit.mpr fun a => match a with
    | ⟨0, _⟩ => ?_
    | ⟨1, _⟩ => ?_
  · show B.oo j 0 ≤ (i 0).val ∧ (i 0).val < B.oo j 0 + 1024
    rw [e0, hj]; dsimp only; omega
  · show B.oo j 1 ≤ (i 1).val ∧ (i 1).val < B.oo j 1 + 1024
    rw [e1]; omega

end Cert.KernelIdeal.Line

end
-- ==== Proof.Plan.lean ====
/-
# Who hands what to whom

Every semaphore of the kernel with the rounds it goes through: who raises it, by how much, and what the raise hands to
the device that waits. The barrier hands over the two buffers the neighbours will write into; a receive hands over the
rows that came; a send's end hands back the rows that left; a load's end hands over the slot it filled. The levels say
in which order the waits of all devices come, so that no device waits for ever.
-/
module

public import proofs.«01_k».proof.Proof.Moves
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem bigSep_ins {I : Type} [DecidableEq I] {i : I} {s : Finset I} (h : i ∉ s) {Φ : I → sProp 𝕄} :
    bigSep (insert i s) Φ = iprop(Φ i ∗ bigSep s Φ) := bigSep_insert h

/-! ## The chunks still to come and the chunks done -/

def ge (n : ℕ) : Finset (Fin 16) := Finset.univ.filter fun s => n ≤ s.val
def lt (n : ℕ) : Finset (Fin 16) := Finset.univ.filter fun s => s.val < n

theorem mem_ge {n : ℕ} {s : Fin 16} : s ∈ ge n ↔ n ≤ s.val := by unfold ge; simp
theorem mem_lt {n : ℕ} {s : Fin 16} : s ∈ lt n ↔ s.val < n := by unfold lt; simp
theorem ge_zero : ge 0 = Finset.univ := by ext s; simp [mem_ge]
theorem ge_16 : ge 16 = ∅ := by ext s; simp [mem_ge]
theorem lt_zero : lt 0 = ∅ := by ext s; simp [mem_lt]
theorem lt_16 : lt 16 = Finset.univ := by ext s; simp [mem_lt]
theorem ge_eq (s : Fin 16) : ge s.val = insert s (ge (s.val + 1)) := by
  ext t; rw [Finset.mem_insert, mem_ge, mem_ge, Fin.ext_iff]; omega
theorem lt_eq (s : Fin 16) : lt (s.val + 1) = insert s (lt s.val) := by
  ext t; rw [Finset.mem_insert, mem_lt, mem_lt, Fin.ext_iff]; omega
theorem not_mem_ge (s : Fin 16) : s ∉ ge (s.val + 1) := by rw [mem_ge]; omega
theorem not_mem_lt (s : Fin 16) : s ∉ lt s.val := by rw [mem_lt]; omega

/-! ## The semaphores -/

/-- The kernel's own semaphores: the end of the send along `x` (0), the receive along `x` (1), the end of the send along `y`
    (2), the receive along `y` (3), one per chunk; the ends of the loads of chunks (0) and of quarters (1), one per slot. -/
abbrev Own : Type := (Fin 4 × Fin 16) ⊕ (Fin 2 × Fin 2)
/-- These, and the barrier. -/
abbrev Role : Type := Unit ⊕ Own

abbrev Role.bar : Role := .inl ()
abbrev Role.ex (k : Fin 4) (s : Fin 16) : Role := .inr (.inl (k, s))
abbrev Role.slot (a b : Fin 2) : Role := .inr (.inr (a, b))

abbrev arr16 : Fin 4 → DmaSems sig S16 := fun | 0 => cc0_scratch7 | 1 => cc0_scratch8 | 2 => cc0_scratch9 | 3 => cc0_scratch10
abbrev arr2 : Fin 2 → DmaSems sig S2 := fun | 0 => cc0_scratch5 | 1 => cc0_scratch6

abbrev osem : Own → SemLoc sig := fun
  | .inl (k, s) => .dma (sem16 (arr16 k) s)
  | .inr (a, b) => .dma (sem2 (arr2 a) b)
abbrev csem : Role → SemLoc sig := fun
  | .inl _ => .reg barrier
  | .inr o => osem o

theorem sem16_val : ∀ (k : Fin 4) (s : Fin 16), (sem16 (arr16 k) s).val = 5 + 16 * k.val + s.val := by decide +kernel
theorem sem2_val : ∀ (a b : Fin 2), (sem2 (arr2 a) b).val = 1 + 2 * a.val + b.val := by decide +kernel

theorem dma_inj {q q' : DmaSem sig} (h : (SemLoc.dma q : SemLoc sig) = .dma q') : q.val = q'.val := by
  cases h; rfl

theorem osem_inj : Function.Injective osem := by
  rintro (⟨k, s⟩ | ⟨a, b⟩) (⟨k', s'⟩ | ⟨a', b'⟩) h
  · have h := dma_inj h
    rw [sem16_val, sem16_val] at h
    have : k = k' ∧ s = s' := ⟨Fin.ext (by omega), Fin.ext (by omega)⟩
    rw [this.1, this.2]
  · have h := dma_inj h
    rw [sem16_val, sem2_val] at h; omega
  · have h := dma_inj h
    rw [sem16_val, sem2_val] at h; omega
  · have h := dma_inj h
    rw [sem2_val, sem2_val] at h
    have : a = a' ∧ b = b' := ⟨Fin.ext (by omega), Fin.ext (by omega)⟩
    rw [this.1, this.2]

theorem osem_ne_bar (o : Own) : osem o ≠ .reg barrier := by
  rcases o with ⟨k, s⟩ | ⟨a, b⟩ <;> intro h <;> cases h

theorem csem_inj : Function.Injective csem := by
  rintro (u | o) (u' | o') h
  · rfl
  · exact absurd h.symm (osem_ne_bar o')
  · exact absurd h (osem_ne_bar o)
  · exact congrArg Sum.inr (osem_inj h)

/-- The role of a semaphore. -/
def roleOf : SemLoc sig → Option Role := Function.partialInv csem
theorem roleOf_csem (ρ : Role) : roleOf (csem ρ) = some ρ := Function.partialInv_left csem_inj ρ

abbrev cell (c : Dev nD) (ρ : Role) : GSem nD τ sig := ((c : Thread nD τ), csem ρ)

theorem cell_inj {c c' : Dev nD} {ρ ρ' : Role} (h : cell c ρ = cell c' ρ') : c = c' ∧ ρ = ρ' :=
  ⟨congrArg (fun g : GSem nD τ sig => g.1.1) h, csem_inj (congrArg Prod.snd h)⟩

/-! ## The pieces of memory -/

abbrev xP (c : Dev nD) (q : PosShare TreeShare) (f : S1x4096x2048.Idx → Elt F .f32) : sProp 𝕄 :=
  ((c : Thread nD τ).loc main_arg0) ↦{q} f
abbrev outP (c : Dev nD) (f : S4096x1024.Idx → Elt F .bf16) : sProp 𝕄 :=
  ((c : Thread nD τ).loc cc0_stg0_0) ↦{fullShare} f
abbrev ldP (c : Dev nD) (I : Finset S2x128x1024.Idx) (f : S2x128x1024.Idx → Elt F .f32) : sProp 𝕄 :=
  ((c : Thread nD τ).loc cc0_scratch0) ↦[I]{fullShare} f
abbrev bigP (c : Dev nD) (I : Finset S2x1024x1024.Idx) (f : S2x1024x1024.Idx → Elt F .f32) : sProp 𝕄 :=
  ((c : Thread nD τ).loc cc0_scratch1) ↦[I]{fullShare} f
abbrev xsP (c : Dev nD) (I : Finset S2048x1024.Idx) (f : S2048x1024.Idx → Elt F .bf16) : sProp 𝕄 :=
  ((c : Thread nD τ).loc cc0_scratch2) ↦[I]{fullShare} f
abbrev xrP (c : Dev nD) (I : Finset S2048x1024.Idx) (q : PosShare TreeShare) (f : S2048x1024.Idx → Elt F .bf16) : sProp 𝕄 :=
  ((c : Thread nD τ).loc cc0_scratch3) ↦[I]{q} f
abbrev yrP (c : Dev nD) (I : Finset S2048x1024.Idx) (f : S2048x1024.Idx → Elt F .bf16) : sProp 𝕄 :=
  ((c : Thread nD τ).loc cc0_scratch4) ↦[I]{fullShare} f

/-- The rows of chunk `s`. -/
abbrev rows (s : Fin 16) : Finset S2048x1024.Idx := span (128 * s.val) (128 * (s.val + 1))

/-- The operand is read by up to four loads at a time: each slot keeps a quarter of it. -/
def qx (a b : Fin 2) : PosShare TreeShare := match a, b with
  | 0, 0 => fullShare.left.left | 0, 1 => fullShare.left.right
  | 1, 0 => fullShare.right.left | 1, 1 => fullShare.right.right

/-- What a transfer of a chunk along `x` or `y` credits, what the load of a chunk credits, what the load of a quarter credits. -/
@[irreducible] def NX : ℕ := (rowM xrM 0).view.dmaCredit
@[irreducible] def NL : ℕ := (ldS 0).view.dmaCredit
@[irreducible] def NB : ℕ := (bigS 0).view.dmaCredit
theorem NX_pos : 0 < NX := by unfold NX; exact View.dmaCredit_pos _ (by decide)
theorem NL_pos : 0 < NL := by unfold NL; exact View.dmaCredit_pos _ (by decide)
theorem NB_pos : 0 < NB := by unfold NB; exact View.dmaCredit_pos _ (by decide)
theorem NX_eq (M : Memref sig .tc .vmem S2048x1024 .bf16) (s : Fin 16) : (rowM M s).view.dmaCredit = NX := by unfold NX; rfl
theorem NL_eq (b : Fin 2) : (ldS b).view.dmaCredit = NL := by unfold NL; rfl
theorem NB_eq (b : Fin 2) : (bigS b).view.dmaCredit = NB := by unfold NB; rfl

/-! ## The schedule -/

section Sched
variable (m : (ℓ : Loc nD τ sig) → Buf (Elt F) ℓ)

/-- The quarter a round of a slot of the quarters' double buffer loads. -/
abbrev j4 (n : ℕ) : Fin 4 := ⟨n % 4, Nat.mod_lt _ (by decide)⟩

/-- What a raise hands over. -/
def pay (c : Dev nD) : Role → ℕ → Bool → sProp 𝕄
  | .inl _, _, false => iprop(∃ f, xrP (xn c) Finset.univ fullShare f)
  | .inl _, _, true => iprop(∃ f, yrP (yn c) Finset.univ f)
  | .inr (.inl (0, s)), _, _ => xsP c (rows s) (xsC m c)
  | .inr (.inl (1, s)), _, _ => xrP c (rows s) fullShare (xrC m c)
  | .inr (.inl (2, s)), _, _ => xrP c (rows s) fullShare.right (xrC m c)
  | .inr (.inl (3, s)), _, _ => yrP c (rows s) (yrC m c)
  | .inr (.inr (0, b)), r, _ => iprop(xP c (qx 0 b) (X m c) ∗ ldP c (ldI b) (ldC m c (2 * r + b.val)))
  | .inr (.inr (1, b)), r, _ => iprop(xP c (qx 1 b) (X m c) ∗ bigP c (bigI b) (bigC m c (j4 (2 * r + b.val))))

instance pay_storable (c : Dev nD) (ρ : Role) (r : ℕ) (d : Bool) : BI.Storable (upEmb : UEmb _ 𝕄) (pay m c ρ r d) := by
  unfold pay
  split <;> infer_instance

/-- How many rounds a slot goes through. -/
abbrev lim (a : Fin 2) : ℕ := match a with | 0 => 8 | 1 => 2

def dut : Role → ℕ → Finset Bool
  | .inl _, r => if r = 0 then Finset.univ else ∅
  | .inr (.inl _), r => if r = 0 then {false} else ∅
  | .inr (.inr (a, _)), r => if r < lim a then {false} else ∅

def amt : Role → ℕ
  | .inl _ => 1
  | .inr (.inl _) => NX
  | .inr (.inr (0, _)) => NL
  | .inr (.inr (1, _)) => NB

theorem amt_pos (ρ : Role) : 0 < amt ρ := by
  unfold amt
  split
  · exact Nat.one_pos
  · exact NX_pos
  · exact NL_pos
  · exact NB_pos

def Rd : Rounds.Schedule (GSem nD τ sig) Bool 𝕄 where
  duties g r := if g.1.2 = .tc then (match roleOf g.2 with | some ρ => dut ρ r | none => ∅) else ∅
  unitless _ := False
  amount g _ _ := match roleOf g.2 with | some ρ => amt ρ | none => 1
  payload g r d := match roleOf g.2 with | some ρ => pay m g.1.1 ρ r d | none => iprop(emp)
  amount_pos g r d _ := by
    cases h : roleOf g.2 with
    | none => exact Nat.one_pos
    | some ρ => exact amt_pos ρ

instance Rd_payload_storable (g : GSem nD τ sig) (r : ℕ) (d : Bool) : BI.Storable (upEmb : UEmb _ 𝕄) ((Rd (F := F) m).payload g r d) := by
  show BI.Storable upEmb (match roleOf g.2 with | some ρ => pay m g.1.1 ρ r d | none => iprop(emp))
  split <;> infer_instance

variable (c : Dev nD) (ρ : Role) (r : ℕ) (d : Bool)

theorem duties_cell : (Rd (F := F) m).duties (cell c ρ) r = dut ρ r := by
  show (if (cell c ρ).1.2 = .tc then (match roleOf (csem ρ) with | some ρ => dut ρ r | none => ∅) else ∅) = _
  rw [if_pos rfl, roleOf_csem]
theorem amount_cell : (Rd (F := F) m).amount (cell c ρ) r d = amt ρ := by
  show (match roleOf (csem ρ) with | some ρ => amt ρ | none => 1) = _
  rw [roleOf_csem]
theorem payload_cell : (Rd (F := F) m).payload (cell c ρ) r d = pay m c ρ r d := by
  show (match roleOf (csem ρ) with | some ρ => pay m c ρ r d | none => iprop(emp)) = _
  rw [roleOf_csem]

theorem pay_xs (s : Fin 16) : pay m c (.ex 0 s) 0 false = xsP c (rows s) (xsC m c) := rfl
theorem pay_xr (s : Fin 16) : pay m c (.ex 1 s) 0 false = xrP c (rows s) fullShare (xrC m c) := rfl
theorem pay_ys (s : Fin 16) : pay m c (.ex 2 s) 0 false = xrP c (rows s) fullShare.right (xrC m c) := rfl
theorem pay_yr (s : Fin 16) : pay m c (.ex 3 s) 0 false = yrP c (rows s) (yrC m c) := rfl
theorem pay_ld (b : Fin 2) : pay m c (.slot 0 b) r false = iprop(xP c (qx 0 b) (X m c) ∗ ldP c (ldI b) (ldC m c (2 * r + b.val))) := rfl
theorem pay_big (b : Fin 2) : pay m c (.slot 1 b) r false = iprop(xP c (qx 1 b) (X m c) ∗ bigP c (bigI b) (bigC m c (j4 (2 * r + b.val)))) := rfl

theorem dut_bar : dut .bar 0 = {false, true} := by decide
theorem dut_ex (k : Fin 4) (s : Fin 16) : dut (.ex k s) 0 = {false} := rfl
theorem dut_slot (a b : Fin 2) (h : r < lim a) : dut (.slot a b) r = {false} := if_pos h

theorem mem_ex (k : Fin 4) (s : Fin 16) : false ∈ (Rd (F := F) m).duties (cell c (.ex k s)) 0 := by
  rw [duties_cell, dut_ex]; exact Finset.mem_singleton_self _
theorem mem_slot (a b : Fin 2) (h : r < lim a) : false ∈ (Rd (F := F) m).duties (cell c (.slot a b)) r := by
  rw [duties_cell, dut_slot r a b h]; exact Finset.mem_singleton_self _
theorem mem_bar : d ∈ (Rd (F := F) m).duties (cell c .bar) 0 := by
  rw [duties_cell]; exact Finset.mem_univ d

theorem expect_one (h : dut ρ r = {false}) : (Rd (F := F) m).expect (cell c ρ) r = amt ρ := by
  unfold Schedule.expect Schedule.amountOf; rw [duties_cell, h, Finset.sum_singleton, amount_cell]
theorem expect_bar : (Rd (F := F) m).expect (cell c .bar) 0 = 2 := by
  unfold Schedule.expect Schedule.amountOf
  rw [duties_cell, dut_bar, Finset.sum_pair (by decide), amount_cell, amount_cell]; rfl

theorem rest_one (h : dut ρ r = {false}) :
    bigSep ((Rd (F := F) m).duties (cell c ρ) r \ ∅) (fun u => (Rd (F := F) m).payload (cell c ρ) r u) = pay m c ρ r false := by
  rw [Finset.sdiff_empty, duties_cell, h, bigSep_singleton, payload_cell]
theorem rest_bar :
    bigSep ((Rd (F := F) m).duties (cell c .bar) 0 \ ∅) (fun u => (Rd (F := F) m).payload (cell c .bar) 0 u)
      = iprop(pay m c .bar 0 false ∗ pay m c .bar 0 true) := by
  rw [Finset.sdiff_empty, duties_cell, dut_bar, bigSep_ins (by decide), bigSep_singleton, payload_cell, payload_cell]

/-- How many rounds a semaphore goes through. -/
def last : Role → ℕ
  | .inl _ => 1
  | .inr (.inl _) => 1
  | .inr (.inr (a, _)) => lim a

theorem duties_last : ∀ r', last ρ ≤ r' → (Rd (F := F) m).duties (cell c ρ) r' = ∅ := by
  intro r' h
  rw [duties_cell]
  rcases ρ with u | ⟨k, s⟩ | ⟨a, b⟩
  · exact if_neg (by have : 1 ≤ r' := h; omega)
  · exact if_neg (by have : 1 ≤ r' := h; omega)
  · exact if_neg (by have : lim a ≤ r' := h; omega)

end Sched

/-! ## What each device owes, and the levels -/

/-- What device `c` owes from chunk `i` on along `x` and from chunk `j` on along `y`. -/
def OO (c : Dev nD) (i j : ℕ) : CellTallies nD τ sig Unit :=
  (∑ s ∈ ge i, tallyAt (cell (xn c) (.ex 1 s)) () NX) + ∑ s ∈ ge j, tallyAt (cell (yn c) (.ex 3 s)) () NX

/-- What device `c` owes at the start. -/
def O₀ (c : Dev nD) : CellTallies nD τ sig Unit :=
  (OO c 0 0 + tallyAt (cell (yn c) .bar) () 1) + tallyAt (cell (xn c) .bar) () 1

theorem OO_x (c : Dev nD) (s : Fin 16) (j : ℕ) : OO c s.val j = OO c (s.val + 1) j + tallyAt (cell (xn c) (.ex 1 s)) () NX := by
  unfold OO; rw [ge_eq s, Finset.sum_insert (not_mem_ge s), add_comm (tallyAt _ _ _), add_right_comm]
theorem OO_y (c : Dev nD) (i : ℕ) (s : Fin 16) : OO c i s.val = OO c i (s.val + 1) + tallyAt (cell (yn c) (.ex 3 s)) () NX := by
  unfold OO; rw [ge_eq s, Finset.sum_insert (not_mem_ge s), add_comm (tallyAt _ _ _), add_assoc]
theorem OO_end (c : Dev nD) : OO c 16 16 = 0 := by unfold OO; rw [ge_16, Finset.sum_empty, Finset.sum_empty, add_zero]

def lvR : Role → ℕ
  | .inl _ => 1
  | .inr (.inl (1, s)) => 2 + s.val
  | .inr (.inl (3, s)) => 20 + s.val
  | _ => 0

def L (g : GSem nD τ sig) : Finset Unit := if g.1.2 = .tc then {()} else ∅
def lvS (sm : SemLoc sig) : ℕ := match roleOf sm with | some ρ => lvR ρ | none => 0
def lv (g : GSem nD τ sig) (_ : Unit) : ℕ := lvS g.2
theorem lvS_csem (ρ : Role) : lvS (csem ρ) = lvR ρ := by unfold lvS; rw [roleOf_csem]
theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {k : ℕ} (h : 0 < (tallyAt g' () k : CellTallies nD τ sig Unit) g u) : g = g' := by
  rw [tallyAt_apply] at h
  by_contra hn
  rw [if_neg (fun h' => hn h'.1)] at h
  exact Nat.lt_irrefl 0 h

theorem sum_pos {n : ℕ} {T : Fin 16 → GSem nD τ sig} {g : GSem nD τ sig} {u : Unit} {k : ℕ}
    (h : 0 < (∑ s ∈ ge n, (tallyAt (T s) () k : CellTallies nD τ sig Unit)) g u) : ∃ s : Fin 16, n ≤ s.val ∧ g = T s := by
  rw [Finset.sum_apply, Finsupp.finset_sum_apply] at h
  obtain ⟨s, hs, hp⟩ := Finset.exists_ne_zero_of_sum_ne_zero (Nat.pos_iff_ne_zero.mp h)
  exact ⟨s, mem_ge.mp hs, tally_pos (Nat.pos_iff_ne_zero.mpr hp)⟩

theorem OO_pos {c : Dev nD} {i j : ℕ} {g : GSem nD τ sig} {u : Unit} (h : 0 < OO c i j g u) :
    (∃ s : Fin 16, i ≤ s.val ∧ g = cell (xn c) (.ex 1 s)) ∨ (∃ s : Fin 16, j ≤ s.val ∧ g = cell (yn c) (.ex 3 s)) := by
  unfold OO at h
  rw [Pi.add_apply, Finsupp.add_apply] at h
  rcases Nat.eq_zero_or_pos ((∑ s ∈ ge i, (tallyAt (cell (xn c) (.ex 1 s)) () NX : CellTallies nD τ sig Unit)) g u) with h0 | h0
  · rw [h0, Nat.zero_add] at h; exact Or.inr (sum_pos h)
  · exact Or.inl (sum_pos h0)

/-- The levels, as every device knows them. -/
def levs : sProp 𝕄 := levAts L lv
instance levs_persistent : BI.Persistent (levs (F := F)) := by unfold levs; infer_instance

/-- A wait at a level below everything still owed. -/
theorem mayWait_OO (c : Dev nD) (sm : SemLoc sig) (i j : ℕ) (hi : ∀ s : Fin 16, i ≤ s.val → lvS sm < 2 + s.val)
    (hj : ∀ s : Fin 16, j ≤ s.val → lvS sm < 20 + s.val) : levs (F := F) ⊢ MayWait (c : Thread nD τ) sm () (OO c i j) :=
  MayOwe.of_cut (L := L) (lev := lv) (lvS sm) (fun p hp => by rw [Finset.mem_singleton.mp hp, L_tc]; exact Finset.mem_singleton_self _)
    (fun g u hg => by rcases OO_pos hg with ⟨s, -, rfl⟩ | ⟨s, -, rfl⟩ <;> exact Finset.mem_singleton_self _)
    (fun p hp => by rw [Finset.mem_singleton.mp hp]; exact le_refl _)
    (fun g u hg => by
      rcases OO_pos hg with ⟨s, hs, rfl⟩ | ⟨s, hs, rfl⟩
      · show lvS sm < lvS (csem (.ex 1 s)); rw [lvS_csem]; exact hi s hs
      · show lvS sm < lvS (csem (.ex 3 s)); rw [lvS_csem]; exact hj s hs)

theorem O₀_pos {c : Dev nD} {g : GSem nD τ sig} {u : Unit} (h : 0 < O₀ c g u) : ∃ c' ρ, g = cell c' ρ ∧ 0 < lvR ρ := by
  unfold O₀ at h
  rw [Pi.add_apply, Finsupp.add_apply, Pi.add_apply, Finsupp.add_apply] at h
  rcases Nat.eq_zero_or_pos ((tallyAt (cell (xn c) .bar) () 1 : CellTallies nD τ sig Unit) g u) with h1 | h1
  · rcases Nat.eq_zero_or_pos ((tallyAt (cell (yn c) .bar) () 1 : CellTallies nD τ sig Unit) g u) with h2 | h2
    · have h3 : 0 < OO c 0 0 g u := by
        generalize OO c 0 0 g u = n at h ⊢
        omega
      rcases OO_pos h3 with ⟨s, -, rfl⟩ | ⟨s, -, rfl⟩
      · exact ⟨_, _, rfl, show 0 < 2 + s.val by omega⟩
      · exact ⟨_, _, rfl, show 0 < 20 + s.val by omega⟩
    · exact ⟨_, _, tally_pos h2, Nat.one_pos⟩
  · exact ⟨_, _, tally_pos h1, Nat.one_pos⟩

/-- A wait at level zero, by a device that owes all it owes at the start. -/
theorem mayWait_O₀ (c : Dev nD) (sm : SemLoc sig) (h0 : lvS sm = 0) : levs (F := F) ⊢ MayWait (c : Thread nD τ) sm () (O₀ c) :=
  MayOwe.of_cut (L := L) (lev := lv) 0 (fun p hp => by rw [Finset.mem_singleton.mp hp, L_tc]; exact Finset.mem_singleton_self _)
    (fun g u hg => by obtain ⟨c', ρ, rfl, -⟩ := O₀_pos hg; exact Finset.mem_singleton_self _)
    (fun p hp => by rw [Finset.mem_singleton.mp hp]; exact le_of_eq h0)
    (fun g u hg => by obtain ⟨c', ρ, rfl, hp⟩ := O₀_pos hg; show 0 < lvS (csem ρ); rw [lvS_csem]; exact hp)

end Cert.KernelIdeal.Line

end
-- ==== Proof.Triples.lean ====
/-
# What each step does

A triple says: from what stands before it, and the records every device shares, a step runs and ends with what stands
after it. This module has the rules that put triples together, and one triple per step of the kernel.
-/
module

public import proofs.«01_k».proof.Proof.Plan

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Role → ℕ) (c : Dev nD)

/-! ## The records every device shares -/

def records : sProp 𝕄 :=
  iprop((bigSep Finset.univ fun ck : Dev nD × Role => cellInv ER (Rd m) (K ck) (cell ck.1 ck.2))
    ∗ bigSep Finset.univ fun ck : Dev nD × Role => reached ER (cell ck.1 ck.2) 0)

instance records_persistent : BI.Persistent (records m K) := by unfold records; infer_instance

def env : sProp 𝕄 := iprop(records m K ∗ levs (F := F))

instance env_persistent : BI.Persistent (env m K) := by unfold env; infer_instance

theorem inv_of (d : Dev nD) (ρ : Role) : env m K ⊢ cellInv ER (Rd m) (K (d, ρ)) (cell d ρ) := by
  unfold env records
  iintro ⟨⟨#HI, #HR⟩, #HL⟩
  iapply (show bigSep Finset.univ (fun ck : Dev nD × Role => (cellInv ER (Rd m) (K ck) (cell ck.1 ck.2) : sProp 𝕄))
    ⊢ cellInv ER (Rd m) (K (d, ρ)) (cell d ρ) from bigSep_elim (Finset.mem_univ (d, ρ)))
  iexact HI
theorem reached_of (d : Dev nD) (ρ : Role) : env m K ⊢ reached ER (cell d ρ) 0 := by
  unfold env records
  iintro ⟨⟨#HI, #HR⟩, #HL⟩
  iapply (show bigSep Finset.univ (fun ck : Dev nD × Role => (reached ER (cell ck.1 ck.2) 0 : sProp 𝕄))
    ⊢ reached ER (cell d ρ) 0 from bigSep_elim (Finset.mem_univ (d, ρ)))
  iexact HR
theorem know_levels {A : sProp 𝕄} (h : levs (F := F) ⊢ A) : env m K ⊢ A := by
  unfold env
  iintro ⟨#HR, #HL⟩
  iapply h
  iexact HL

/-! ## Triples -/

/-- What device `c` owes. -/
def OW (O : CellTallies nD τ sig Unit) : sProp 𝕄 := iprop(∃ W, owes (c : Thread nD τ) O W)

def Tri (A : sProp 𝕄) (p : P F) (B : sProp 𝕄) : Prop :=
  iprop(env m K ∗ A) ⊢ wp frame (wpE (defs₀ (F := F)) 𝒱₀ (c : Thread nD τ) none) Set.univ p (fun _ => B)

variable {m K c}

theorem Tri.seq {A B D : sProp 𝕄} {p q : P F} (h : Tri m K c A p B) (h' : Tri m K c B q D) :
    Tri m K c A (p >>= fun _ => q) D := by
  unfold Tri at *
  rw [wp_bind]
  iintro ⟨#He, HA⟩
  iapply (wp_mono Idealize.ShloMosaic.frame (wpE (defs₀ (F := F)) 𝒱₀ (c : Thread nD τ) none) Set.univ (fun _ => h'))
  iapply (wp_frame_l Idealize.ShloMosaic.frame (wpE (defs₀ (F := F)) 𝒱₀ (c : Thread nD τ) none) Set.univ)
  isplitr; · iexact He
  iapply h
  isplitr; · iexact He
  iexact HA

theorem Tri.pre {A A' B : sProp 𝕄} {p : P F} (h : Tri m K c A p B) (hA : A' ⊢ A) : Tri m K c A' p B :=
  (sep_mono_right hA).trans h

theorem Tri.post {A B B' : sProp 𝕄} {p : P F} (h : Tri m K c A p B) (hB : B ⊢ B') : Tri m K c A p B' :=
  BI.Entails.trans h (wp_mono Idealize.ShloMosaic.frame (wpE (defs₀ (F := F)) 𝒱₀ (c : Thread nD τ) none) Set.univ (fun _ => hB))

theorem Tri.frame {A B R : sProp 𝕄} {p : P F} (h : Tri m K c A p B) : Tri m K c iprop(A ∗ R) p iprop(B ∗ R) := by
  unfold Tri at *
  iintro ⟨#He, HA, HR⟩
  iapply (wp_frame_r Idealize.ShloMosaic.frame (wpE (defs₀ (F := F)) 𝒱₀ (c : Thread nD τ) none) Set.univ)
  isplitl [HA]
  · iapply h
    isplitr; · iexact He
    iexact HA
  · iexact HR

/-- The rule a proof of a longer program applies: the step's own resources, and the rest. -/
theorem Tri.use {A B A' B' R : sProp 𝕄} {p : P F} (h : Tri m K c A p B) (hA : A' ⊢ iprop(A ∗ R)) (hB : iprop(B ∗ R) ⊢ B') :
    Tri m K c A' p B' :=
  ((h.frame (R := R)).pre hA).post hB

theorem Tri.skip {A : sProp 𝕄} : Tri m K c A (.ret ⟨⟩) A := by
  unfold Tri
  rw [wp_ret]
  iintro ⟨-, HA⟩
  imodintro
  iexact HA

/-- Successive chunks. -/
theorem Tri.iter {f : Fin 16 → P F} {I : ℕ → sProp 𝕄} : ∀ (n i : ℕ) (h : i + n ≤ 16),
    (∀ s : Fin 16, i ≤ s.val → s.val < i + n → Tri m K c (I s.val) (f s) (I (s.val + 1))) →
    Tri m K c (I i) (iter f n i h) (I (i + n))
  | 0, i, h, _ => Tri.skip
  | n + 1, i, h, hf => by
    refine (hf ⟨i, by omega⟩ (le_refl _) (by show i < _; omega)).seq ?_
    have := Tri.iter n (i + 1) (by omega) (fun s h1 h2 => hf s (by omega) (by omega))
    exact this.post (Entails.of_eq (by rw [show i + 1 + n = i + (n + 1) by omega]))

/-- The resources of the chunks, before and after. -/
def Fam (A Z : Fin 16 → sProp 𝕄) (n : ℕ) : sProp 𝕄 := iprop(bigSep (ge n) A ∗ bigSep (lt n) Z)

theorem Fam.take {A Z : Fin 16 → sProp 𝕄} (s : Fin 16) :
    Fam A Z s.val ⊢ iprop(A s ∗ bigSep (ge (s.val + 1)) A ∗ bigSep (lt s.val) Z) := by
  unfold Fam
  rw [ge_eq s, bigSep_ins (not_mem_ge s)]
  iintro ⟨⟨H1, H2⟩, H3⟩
  isplitl [H1]; · iexact H1
  isplitl [H2] <;> iassumption

theorem Fam.give {A Z : Fin 16 → sProp 𝕄} (s : Fin 16) :
    iprop(Z s ∗ bigSep (ge (s.val + 1)) A ∗ bigSep (lt s.val) Z) ⊢ Fam A Z (s.val + 1) := by
  unfold Fam
  rw [lt_eq s, bigSep_ins (not_mem_lt s)]
  iintro ⟨H1, H2, H3⟩
  isplitl [H2]; · iexact H2
  isplitl [H1] <;> iassumption

/-- A step that turns chunk `s`'s resources from before to after. -/
theorem Tri.fam {R R' : sProp 𝕄} {A Z : Fin 16 → sProp 𝕄} {p : P F} (s : Fin 16)
    (h : Tri m K c iprop(R ∗ A s) p iprop(R' ∗ Z s)) : Tri m K c iprop(R ∗ Fam A Z s.val) p iprop(R' ∗ Fam A Z (s.val + 1)) := by
  refine h.use (R := iprop(bigSep (ge (s.val + 1)) A ∗ bigSep (lt s.val) Z)) ?_ ?_
  · iintro ⟨HR, HF⟩
    ihave H := (Fam.take s) $$ HF
    icases H with ⟨H1, H2⟩
    isplitl [HR H1]
    · isplitl [HR] <;> iassumption
    iexact H2
  · iintro ⟨⟨HR, HZ⟩, H2⟩
    isplitl [HR]; · iexact HR
    iapply (Fam.give s)
    isplitl [HZ] <;> iassumption

theorem Fam.start {A Z : Fin 16 → sProp 𝕄} : bigSep Finset.univ A ⊢ Fam A Z 0 := by
  unfold Fam
  rw [ge_zero, lt_zero, bigSep_empty]
  iintro H
  isplitl; · iexact H
  iempintro

theorem Fam.done {A Z : Fin 16 → sProp 𝕄} : Fam A Z 16 ⊢ bigSep Finset.univ Z := by
  unfold Fam
  rw [ge_16, lt_16, bigSep_empty]
  iintro ⟨-, H⟩
  iexact H

/-! ## The waits -/

/-- A wait for the end of a transfer. -/
theorem wait_tri (ρ : Role) (r : ℕ) (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem ρ) (amt ρ) Kt)
    (hd : dut ρ r = {false}) (O : CellTallies nD τ sig Unit) (hmay : levs (F := F) ⊢ MayWait (c : Thread nD τ) (csem ρ) () O) :
    Tri m K c iprop(cred (tallyAt (cell c ρ) () (amt ρ)) ∗ OW c O ∗ atPos ER (cell c ρ) r ∅ 0) (.lift w)
      iprop(OW c O ∗ atPos ER (cell c ρ) (r + 1) ∅ 0 ∗ reached ER (cell c ρ) (r + 1) ∗ pay m c ρ r false) := by
  have hmay' : env m K ⊢ MayWait (c : Thread nD τ) (csem ρ) () O := know_levels m K hmay
  unfold Tri OW
  simp only [Prog.lift]
  iintro ⟨#He, Hc, ⟨%W, HO⟩, Hat⟩
  iapply (Rounds.wp_wait_rest_token 𝒱₀ ER (Rd m) (c : Thread nD τ) none (κ := K (c, ρ)) hw (Set.mem_univ _) () (O := O) (W := W) (R := r) (m := 0) (T := ∅)
      (by rw [Nat.zero_add, expect_one m c ρ r hd])) $$ [Hc HO Hat]
  · isplitr; · iapply (inv_of m K c ρ); iexact He
    isplitl [Hc]; · iexact Hc
    isplitl [HO]; · iexact HO
    isplitr; · iapply hmay'; iexact He
    iexact Hat
  iintro ⟨HO, Hat, Hr, Hp⟩
  ihave Hp' := (Entails.of_eq (rest_one m c ρ r hd)) $$ Hp
  simp only [wp_ret]
  imodintro
  isplitl [HO]; · iexists _; iexact HO
  isplitl [Hat]; · iexact Hat
  isplitl [Hr] <;> iassumption

end Cert.KernelIdeal.Line

end
-- ==== Proof.Actions.lean ====
/-
# The loads, the rounding and the sends

One triple per step that moves data: the load of a chunk into its slot, the rounding of the slot into the rows to be
sent, the send along `x`, and the same for the quarters of the result and the send along `y`.
-/
module

public import proofs.«01_k».proof.Proof.Triples

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## A slot of a double buffer -/

/-- The duties of the rounds of a slot from `r` on. -/
def toks (a b : Fin 2) (r : ℕ) : sProp 𝕄 := bigSep (Finset.Ico r (lim a)) fun k => dutyTok ER (cell c (.slot a b)) k false

theorem toks_take (a b : Fin 2) (r : ℕ) (h : r < lim a) :
    toks (F := F) c a b r = iprop(dutyTok ER (cell c (.slot a b)) r false ∗ toks c a b (r + 1)) := by
  unfold toks
  rw [show Finset.Ico r (lim a) = insert r (Finset.Ico (r + 1) (lim a)) by
      ext k; rw [Finset.mem_insert, Finset.mem_Ico, Finset.mem_Ico]; omega,
    bigSep_ins (by rw [Finset.mem_Ico]; omega)]

/-- Slot `b` of the chunks' double buffer, free for round `r`. -/
def LF (b : Fin 2) (r : ℕ) : sProp 𝕄 :=
  iprop((∃ f, ldP c (ldI b) f) ∗ xP c (qx 0 b) (X m c) ∗ atPos ER (cell c (.slot 0 b)) r ∅ 0 ∗ reached ER (cell c (.slot 0 b)) r ∗ toks c 0 b r)
/-- The load of round `r` into it is under way. -/
def LB (b : Fin 2) (r : ℕ) : sProp 𝕄 :=
  iprop(cred (tallyAt (cell c (.slot 0 b)) () NL) ∗ atPos ER (cell c (.slot 0 b)) r ∅ 0 ∗ toks c 0 b (r + 1))
/-- It has come. -/
def LL (b : Fin 2) (r : ℕ) : sProp 𝕄 :=
  iprop(ldP c (ldI b) (ldC m c (2 * r + b.val)) ∗ xP c (qx 0 b) (X m c) ∗ atPos ER (cell c (.slot 0 b)) (r + 1) ∅ 0
    ∗ reached ER (cell c (.slot 0 b)) (r + 1) ∗ toks c 0 b (r + 1))

/-- Slot `b` of the quarters' double buffer, free for round `r`. -/
def BF (b : Fin 2) (r : ℕ) : sProp 𝕄 :=
  iprop((∃ f, bigP c (bigI b) f) ∗ xP c (qx 1 b) (X m c) ∗ atPos ER (cell c (.slot 1 b)) r ∅ 0 ∗ reached ER (cell c (.slot 1 b)) r ∗ toks c 1 b r)
/-- The load of round `r` into it is under way. -/
def BB (b : Fin 2) (r : ℕ) : sProp 𝕄 :=
  iprop(cred (tallyAt (cell c (.slot 1 b)) () NB) ∗ atPos ER (cell c (.slot 1 b)) r ∅ 0 ∗ toks c 1 b (r + 1))
/-- It has come. -/
def BL (b : Fin 2) (r : ℕ) : sProp 𝕄 :=
  iprop(bigP c (bigI b) (bigC m c (j4 (2 * r + b.val))) ∗ xP c (qx 1 b) (X m c) ∗ atPos ER (cell c (.slot 1 b)) (r + 1) ∅ 0
    ∗ reached ER (cell c (.slot 1 b)) (r + 1) ∗ toks c 1 b (r + 1))

variable {m c} {K : Dev nD × Role → ℕ} {B : Side c}

theorem half_par (s : Fin 16) : 2 * (s.val / 2) + (par s).val = s.val := by show 2 * (s.val / 2) + s.val % 2 = s.val; omega
theorem half_par4 (j : Fin 4) : j4 (2 * (j.val / 2) + (par4 j).val) = j :=
  Fin.ext (by show (2 * (j.val / 2) + j.val % 2) % 4 = j.val; omega)

/-- What a load of a chunk leaves is what the round hands over. -/
theorem load_pay (hB : B.Good) (s : Fin 16) (f : S2x128x1024.Idx → Elt F .f32) :
    (ldP c (ldI (par s)) ((ldS (par s)).view.write (Elt F) f ((B.loM s).view.read (Elt F) (X m c)) Finset.univ) : sProp 𝕄)
      = ldP c (ldI (par s)) (ldC m c (2 * (s.val / 2) + (par s).val)) := by
  rw [half_par]
  exact pointsTo_congr (load_write m hB s f)

theorem loadStart_tri (hB : B.Good) (s : Fin 16) :
    Tri m K c (LF m c (par s) (s.val / 2)) (loadStart B s) (LB c (par s) (s.val / 2)) := by
  have hr : s.val / 2 < lim 0 := by show s.val / 2 < 8; omega
  unfold Tri LF LB loadStart
  rw [toks_take c 0 (par s) _ hr]
  simp only [Prog.lift]
  iintro ⟨#He, ⟨%f, Hld⟩, Hx, Hat, Hre, Htok, Htoks⟩
  ihave Hx' := (pointsTo_split_subset (I := (B.loM s).view.set) (Finset.subset_univ _)).1 $$ Hx
  icases Hx' with ⟨Hsrc, Hrest⟩
  iapply (Rounds.wp_copy 𝒱₀ ER (Rd m) (c : Thread nD τ) none (src := B.loM s) (dst := ldS (par s)) (sem := csem (.slot 0 (par s)))
    (q := qx 0 (par s)) (fs := X m c) (κ := K (c, .slot 0 (par s)))
    (R := iprop(ldP c (ldI (par s)) ((ldS (par s)).view.write (Elt F) f ((B.loM s).view.read (Elt F) (X m c)) Finset.univ)
      ∗ (((c : Thread nD τ).loc main_arg0) ↦[Finset.univ \ (B.loM s).view.set]{qx 0 (par s)} (X m c))))
    (mem_slot m c (s.val / 2) 0 (par s) hr) () NL (NL_eq (par s)) (amount_cell m c (.slot 0 (par s)) _ _)
    (by
      rw [payload_cell, load_pay hB, pay_ld]
      iintro ⟨⟨H1, H2⟩, H3⟩
      isplitl [H2 H3]
      · iapply (pointsTo_split_subset (I := (B.loM s).view.set) (Finset.subset_univ _)).2
        isplitl [H3]; · iexact H3
        iexact H2
      · iexact H1)) $$ [Hld Hsrc Hrest Htok Hre]
  · isplitr; · iapply (inv_of m K c (.slot 0 (par s))); iexact He
    isplitl [Hsrc]; · iexact Hsrc
    isplitl [Hld Hrest]
    · iapply (writeUpdate_frame (c : Thread nD τ))
      isplitl [Hld]
      · iapply (pointsTo_writeUpdate (c : Thread nD τ) (v := (ldS (par s)).view) (S := ldI (par s)) (fd := f) (by rw [ldS_set]))
        iexact Hld
      · iexact Hrest
    isplitl [Htok]; · iexact Htok
    iexact Hre
  iintro Hc
  simp only [wp_ret]
  imodintro
  isplitl [Hc]; · iexact Hc
  isplitl [Hat]; · iexact Hat
  iexact Htoks

theorem lv_slot (a b : Fin 2) : lvS (csem (.slot a b)) = 0 := by rw [lvS_csem]; rfl

theorem may_slot (a b : Fin 2) (i j : ℕ) : levs (F := F) ⊢ MayWait (c : Thread nD τ) (csem (.slot a b)) () (OO c i j) :=
  mayWait_OO c _ i j (fun s _ => by rw [lv_slot]; omega) (fun s _ => by rw [lv_slot]; omega)

theorem loadWait_tri (s : Fin 16) (i j : ℕ) :
    Tri m K c iprop(LB c (par s) (s.val / 2) ∗ OW c (OO c i j)) (loadWait B s) iprop(LL m c (par s) (s.val / 2) ∗ OW c (OO c i j)) := by
  have hr : s.val / 2 < lim 0 := by show s.val / 2 < 8; omega
  refine (wait_tri (.slot 0 (par s)) (s.val / 2) _ (fun Kt => (wpE_waitDma2_eq 𝒱₀ (c : Thread nD τ) none Set.univ Kt).trans (by rw [NL_eq]; rfl))
    (dut_slot _ 0 (par s) hr) (OO c i j) (may_slot 0 (par s) i j)).use (R := toks c 0 (par s) (s.val / 2 + 1)) ?_ ?_
  · unfold LB
    iintro ⟨⟨H1, H2, H3⟩, H4⟩
    isplitr [H3]
    · isplitl [H1]; · iexact H1
      isplitl [H4]; · iexact H4
      iexact H2
    · iexact H3
  · unfold LL
    rw [pay_ld]
    iintro ⟨⟨H1, H2, H3, H4, H5⟩, H6⟩
    isplitr [H1]
    · isplitl [H5]; · iexact H5
      isplitl [H4]; · iexact H4
      isplitl [H2]; · iexact H2
      isplitl [H3]; · iexact H3
      iexact H6
    · iexact H1

theorem roundStore_tri (s : Fin 16) :
    Tri m K c iprop(LL m c (par s) (s.val / 2) ∗ ∃ f, xsP c (rows s) f) (roundStore s)
      iprop(LF m c (par s) (s.val / 2 + 1) ∗ xsP c (rows s) (xsC m c)) := by
  unfold Tri LL LF roundStore
  rw [half_par]
  simp only [Prog.lift, Prog.bind_op, Prog.bind_ret, Prog.pure_eq_ret]
  iintro ⟨#He, ⟨Hld, Hrest⟩, ⟨%f, Hxs⟩⟩
  iapply (wp_load_rect 𝒱₀ (c : Thread nD τ) none Set.univ (m := ldM) (r := ldR (par s)) (S := ldI (par s)) (q := fullShare) (f := ldC m c s.val)
    (by rw [show (ldM.access (ldR (par s))).set = ldI (par s) from View.set_slice_whole _ _])) $$ Hld
  iintro Hld
  iapply (wp_load_rect 𝒱₀ (c : Thread nD τ) none Set.univ (m := xsM) (r := rowR s) (S := rows s) (q := fullShare) (f := f)
    (by rw [show (xsM.access (rowR s)).set = rows s from rowM_set_xs s])) $$ Hxs
  iintro Hxs
  iapply (wp_store 𝒱₀ (c : Thread nD τ) none Set.univ (m := xsM) (r := rowR s) (S := rows s) (f := f)
    (by rw [show (xsM.access (rowR s)).setOn Finset.univ = rows s from rowM_set_xs s])) $$ Hxs
  iintro Hxs
  simp only [wp_ret]
  imodintro
  isplitr [Hxs]
  · icases Hrest with ⟨H1, H2, H3, H4⟩
    isplitl [Hld]; · iexists (ldC m c s.val); iexact Hld
    isplitl [H1]; · iexact H1
    isplitl [H2]; · iexact H2
    isplitl [H3] <;> iassumption
  · iapply (Entails.of_eq (pointsTo_congr (ℓ := (c : Thread nD τ).loc cc0_scratch2) (I := rows s) (q := fullShare) (fun i hi => round_write m (c := c) s f i (by rw [rowM_set_xs]; exact hi))))
    iexact Hxs

theorem xSend_tri (s : Fin 16) (j : ℕ) :
    Tri m K c iprop(OW c (OO c s.val j) ∗ xsP c (rows s) (xsC m c) ∗ (∃ f, xrP (xn c) (rows s) fullShare f)
        ∗ dutyTok ER (cell c (.ex 0 s)) 0 false ∗ dutyTok ER (cell (xn c) (.ex 1 s)) 0 false)
      (xSend c s) iprop(OW c (OO c (s.val + 1) j) ∗ cred (tallyAt (cell c (.ex 0 s)) () NX)) := by
  unfold Tri OW xSend
  simp only [Prog.lift]
  iintro ⟨#He, ⟨%W, HO⟩, Hxs, ⟨%f, Hxr⟩, Ht1, Ht2⟩
  ihave Hxs := (Entails.of_eq (show xsP c (rows s) (xsC m c) = ((rowM xsM s).view.loc (c : Thread nD τ) ↦[(rowM xsM s).view.set]{fullShare} xsC m c : sProp 𝕄) by rw [rowM_set_xs])) $$ Hxs
  ihave Hxr := (Entails.of_eq (show xrP (xn c) (rows s) fullShare f = ((rowM xrM s).view.loc (xn c : Thread nD τ) ↦[(rowM xrM s).view.set]{fullShare} f : sProp 𝕄) by rw [rowM_set_xr])) $$ Hxr
  iapply (Rounds.wp_send_pointsTo 𝒱₀ ER (Rd m) (c : Thread nD τ) none (c' := (xn c : Thread nD τ)) (src := rowM xsM s) (dst := rowM xrM s)
    (sS := csem (.ex 0 s)) (sem := csem (.ex 1 s)) (κ₁ := K (c, .ex 0 s)) (κ₂ := K (xn c, .ex 1 s))
    (r₁ := 0) (r₂ := 0) (d₁ := false) (d₂ := false) (q := fullShare) (fs := xsC m c) (fd := f) (mem_ex m c 0 s) (mem_ex m (xn c) 1 s)
    () () NX (NX_eq xrM s) (amount_cell m c (.ex 0 s) 0 false) (amount_cell m (xn c) (.ex 1 s) 0 false) (OO c (s.val + 1) j) (OO_x c s j) (W := W)
    (by rw [payload_cell, rowM_set_xs]; exact BI.Entails.refl _)
    (by
      rw [payload_cell]
      refine Entails.of_eq ?_
      rw [pay_xr, rowM_set_xr, show xrC m (xn c) = xsC m c by unfold xrC; rw [xn_xn]]
      exact pointsTo_congr (fun i hi => xsend_write s f (xsC m c) i (by rw [rowM_set_xr]; exact hi)))) $$ [Hxs Hxr HO Ht1 Ht2]
  · isplitr; · iapply (inv_of m K c (.ex 0 s)); iexact He
    isplitr; · iapply (inv_of m K (xn c) (.ex 1 s)); iexact He
    isplitl [Hxs]; · iexact Hxs
    isplitl [Hxr]; · iexact Hxr
    isplitl [HO]; · iexact HO
    isplitl [Ht1]; · iexact Ht1
    isplitr; · iapply (reached_of m K c (.ex 0 s)); iexact He
    isplitl [Ht2]; · iexact Ht2
    iapply (reached_of m K (xn c) (.ex 1 s)); iexact He
  iintro ⟨Hc, HO⟩
  simp only [wp_ret]
  imodintro
  isplitl [HO]; · iexists W; iexact HO
  iexact Hc

theorem lvS_ex0 (s : Fin 16) : lvS (csem (.ex 0 s)) = 0 := by rw [lvS_csem]; rfl
theorem lvS_ex1 (s : Fin 16) : lvS (csem (.ex 1 s)) = 2 + s.val := by rw [lvS_csem]; rfl
theorem lvS_ex2 (s : Fin 16) : lvS (csem (.ex 2 s)) = 0 := by rw [lvS_csem]; rfl
theorem lvS_ex3 (s : Fin 16) : lvS (csem (.ex 3 s)) = 20 + s.val := by rw [lvS_csem]; rfl

theorem xRecvWait_tri (s : Fin 16) (i : ℕ) (hi : s.val < i) :
    Tri m K c iprop(cred (tallyAt (cell c (.ex 1 s)) () NX) ∗ OW c (OO c i s.val) ∗ atPos ER (cell c (.ex 1 s)) 0 ∅ 0) (xRecvWait s)
      iprop(OW c (OO c i s.val) ∗ atPos ER (cell c (.ex 1 s)) 1 ∅ 0 ∗ reached ER (cell c (.ex 1 s)) 1 ∗ xrP c (rows s) fullShare (xrC m c)) :=
  wait_tri (.ex 1 s) 0 _ (fun Kt => (wpE_waitDma2_eq 𝒱₀ (c : Thread nD τ) none Set.univ Kt).trans (by rw [NX_eq]; rfl))
    (dut_ex 1 s) (OO c i s.val) (mayWait_OO c _ i s.val (fun s' _ => by rw [lvS_ex1]; omega) (fun s' _ => by rw [lvS_ex1]; omega))

theorem yRecvWait_tri (s : Fin 16) :
    Tri m K c iprop(cred (tallyAt (cell c (.ex 3 s)) () NX) ∗ OW c (OO c 16 16) ∗ atPos ER (cell c (.ex 3 s)) 0 ∅ 0) (yRecvWait s)
      iprop(OW c (OO c 16 16) ∗ atPos ER (cell c (.ex 3 s)) 1 ∅ 0 ∗ reached ER (cell c (.ex 3 s)) 1 ∗ yrP c (rows s) (yrC m c)) :=
  wait_tri (.ex 3 s) 0 _ (fun Kt => (wpE_waitDma2_eq 𝒱₀ (c : Thread nD τ) none Set.univ Kt).trans (by rw [NX_eq]; rfl))
    (dut_ex 3 s) (OO c 16 16) (mayWait_OO c _ 16 16 (fun s' h => by omega) (fun s' h => by omega))

theorem xSendWait_tri (s : Fin 16) :
    Tri m K c iprop(cred (tallyAt (cell c (.ex 0 s)) () NX) ∗ OW c (OO c 16 16) ∗ atPos ER (cell c (.ex 0 s)) 0 ∅ 0) (xSendWait s)
      iprop(OW c (OO c 16 16) ∗ atPos ER (cell c (.ex 0 s)) 1 ∅ 0 ∗ reached ER (cell c (.ex 0 s)) 1 ∗ xsP c (rows s) (xsC m c)) :=
  wait_tri (.ex 0 s) 0 _ (fun Kt => (wpE_waitDma2_eq 𝒱₀ (c : Thread nD τ) none Set.univ Kt).trans (by rw [NX_eq]; rfl))
    (dut_ex 0 s) (OO c 16 16) (mayWait_OO c _ 16 16 (fun s' h => by omega) (fun s' h => by omega))

theorem ySendWait_tri (s : Fin 16) :
    Tri m K c iprop(cred (tallyAt (cell c (.ex 2 s)) () NX) ∗ OW c (OO c 16 16) ∗ atPos ER (cell c (.ex 2 s)) 0 ∅ 0) (ySendWait s)
      iprop(OW c (OO c 16 16) ∗ atPos ER (cell c (.ex 2 s)) 1 ∅ 0 ∗ reached ER (cell c (.ex 2 s)) 1 ∗ xrP c (rows s) fullShare.right (xrC m c)) :=
  wait_tri (.ex 2 s) 0 _ (fun Kt => (wpE_waitDma2_eq 𝒱₀ (c : Thread nD τ) none Set.univ Kt).trans (by rw [NX_eq]; rfl))
    (dut_ex 2 s) (OO c 16 16) (mayWait_OO c _ 16 16 (fun s' h => by omega) (fun s' h => by omega))

theorem ySend_tri (s : Fin 16) (i : ℕ) :
    Tri m K c iprop(OW c (OO c i s.val) ∗ xrP c (rows s) fullShare.right (xrC m c) ∗ (∃ f, yrP (yn c) (rows s) f)
        ∗ dutyTok ER (cell c (.ex 2 s)) 0 false ∗ dutyTok ER (cell (yn c) (.ex 3 s)) 0 false)
      (ySend c s) iprop(OW c (OO c i (s.val + 1)) ∗ cred (tallyAt (cell c (.ex 2 s)) () NX)) := by
  unfold Tri OW ySend
  simp only [Prog.lift]
  iintro ⟨#He, ⟨%W, HO⟩, Hxs, ⟨%f, Hxr⟩, Ht1, Ht2⟩
  ihave Hxs := (Entails.of_eq (show xrP c (rows s) fullShare.right (xrC m c) = ((rowM xrM s).view.loc (c : Thread nD τ) ↦[(rowM xrM s).view.set]{fullShare.right} xrC m c : sProp 𝕄) by rw [rowM_set_xr])) $$ Hxs
  ihave Hxr := (Entails.of_eq (show yrP (yn c) (rows s) f = ((rowM yrM s).view.loc (yn c : Thread nD τ) ↦[(rowM yrM s).view.set]{fullShare} f : sProp 𝕄) by rw [rowM_set_yr])) $$ Hxr
  iapply (Rounds.wp_send_pointsTo 𝒱₀ ER (Rd m) (c : Thread nD τ) none (c' := (yn c : Thread nD τ)) (src := rowM xrM s) (dst := rowM yrM s)
    (sS := csem (.ex 2 s)) (sem := csem (.ex 3 s)) (κ₁ := K (c, .ex 2 s)) (κ₂ := K (yn c, .ex 3 s))
    (r₁ := 0) (r₂ := 0) (d₁ := false) (d₂ := false) (q := fullShare.right) (fs := xrC m c) (fd := f) (mem_ex m c 2 s) (mem_ex m (yn c) 3 s)
    () () NX (NX_eq yrM s) (amount_cell m c (.ex 2 s) 0 false) (amount_cell m (yn c) (.ex 3 s) 0 false) (OO c i (s.val + 1)) (OO_y c i s) (W := W)
    (by rw [payload_cell, rowM_set_xr]; exact BI.Entails.refl _)
    (by
      rw [payload_cell]
      refine Entails.of_eq ?_
      rw [pay_yr, rowM_set_yr, show yrC m (yn c) = xrC m c by unfold yrC; rw [yn_yn]]
      exact pointsTo_congr (fun i hi => ysend_write s f (xrC m c) i (by rw [rowM_set_yr]; exact hi)))) $$ [Hxs Hxr HO Ht1 Ht2]
  · isplitr; · iapply (inv_of m K c (.ex 2 s)); iexact He
    isplitr; · iapply (inv_of m K (yn c) (.ex 3 s)); iexact He
    isplitl [Hxs]; · iexact Hxs
    isplitl [Hxr]; · iexact Hxr
    isplitl [HO]; · iexact HO
    isplitl [Ht1]; · iexact Ht1
    isplitr; · iapply (reached_of m K c (.ex 2 s)); iexact He
    isplitl [Ht2]; · iexact Ht2
    iapply (reached_of m K (yn c) (.ex 3 s)); iexact He
  iintro ⟨Hc, HO⟩
  simp only [wp_ret]
  imodintro
  isplitl [HO]; · iexists W; iexact HO
  iexact Hc

/-! ## The quarters of the result -/

theorem big_pay (hB : B.Good) (j : Fin 4) (f : S2x1024x1024.Idx → Elt F .f32) :
    (bigP c (bigI (par4 j)) ((bigS (par4 j)).view.write (Elt F) f ((B.boM j).view.read (Elt F) (X m c)) Finset.univ) : sProp 𝕄)
      = bigP c (bigI (par4 j)) (bigC m c (j4 (2 * (j.val / 2) + (par4 j).val))) := by
  rw [half_par4]
  exact pointsTo_congr (big_write m hB j f)

theorem bigStart_tri (hB : B.Good) (j : Fin 4) :
    Tri m K c (BF m c (par4 j) (j.val / 2)) (bigStart B j) (BB c (par4 j) (j.val / 2)) := by
  have hr : j.val / 2 < lim 1 := by show j.val / 2 < 2; omega
  unfold Tri BF BB bigStart
  rw [toks_take c 1 (par4 j) _ hr]
  simp only [Prog.lift]
  iintro ⟨#He, ⟨%f, Hld⟩, Hx, Hat, Hre, Htok, Htoks⟩
  ihave Hx' := (pointsTo_split_subset (I := (B.boM j).view.set) (Finset.subset_univ _)).1 $$ Hx
  icases Hx' with ⟨Hsrc, Hrest⟩
  iapply (Rounds.wp_copy 𝒱₀ ER (Rd m) (c : Thread nD τ) none (src := B.boM j) (dst := bigS (par4 j)) (sem := csem (.slot 1 (par4 j)))
    (q := qx 1 (par4 j)) (fs := X m c) (κ := K (c, .slot 1 (par4 j)))
    (R := iprop(bigP c (bigI (par4 j)) ((bigS (par4 j)).view.write (Elt F) f ((B.boM j).view.read (Elt F) (X m c)) Finset.univ)
      ∗ (((c : Thread nD τ).loc main_arg0) ↦[Finset.univ \ (B.boM j).view.set]{qx 1 (par4 j)} (X m c))))
    (mem_slot m c (j.val / 2) 1 (par4 j) hr) () NB (NB_eq (par4 j)) (amount_cell m c (.slot 1 (par4 j)) _ _)
    (by
      rw [payload_cell, big_pay hB, pay_big]
      iintro ⟨⟨H1, H2⟩, H3⟩
      isplitl [H2 H3]
      · iapply (pointsTo_split_subset (I := (B.boM j).view.set) (Finset.subset_univ _)).2
        isplitl [H3]; · iexact H3
        iexact H2
      · iexact H1)) $$ [Hld Hsrc Hrest Htok Hre]
  · isplitr; · iapply (inv_of m K c (.slot 1 (par4 j))); iexact He
    isplitl [Hsrc]; · iexact Hsrc
    isplitl [Hld Hrest]
    · iapply (writeUpdate_frame (c : Thread nD τ))
      isplitl [Hld]
      · iapply (pointsTo_writeUpdate (c : Thread nD τ) (v := (bigS (par4 j)).view) (S := bigI (par4 j)) (fd := f) (by rw [bigS_set]))
        iexact Hld
      · iexact Hrest
    isplitl [Htok]; · iexact Htok
    iexact Hre
  iintro Hc
  simp only [wp_ret]
  imodintro
  isplitl [Hc]; · iexact Hc
  isplitl [Hat]; · iexact Hat
  iexact Htoks

theorem bigWait_tri (s : Fin 4) (i j : ℕ) :
    Tri m K c iprop(BB c (par4 s) (s.val / 2) ∗ OW c (OO c i j)) (bigWait B s) iprop(BL m c (par4 s) (s.val / 2) ∗ OW c (OO c i j)) := by
  have hr : s.val / 2 < lim 1 := by show s.val / 2 < 2; omega
  refine (wait_tri (.slot 1 (par4 s)) (s.val / 2) _ (fun Kt => (wpE_waitDma2_eq 𝒱₀ (c : Thread nD τ) none Set.univ Kt).trans (by rw [NB_eq]; rfl))
    (dut_slot _ 1 (par4 s) hr) (OO c i j) (may_slot 1 (par4 s) i j)).use (R := toks c 1 (par4 s) (s.val / 2 + 1)) ?_ ?_
  · unfold BB
    iintro ⟨⟨H1, H2, H3⟩, H4⟩
    isplitr [H3]
    · isplitl [H1]; · iexact H1
      isplitl [H4]; · iexact H4
      iexact H2
    · iexact H3
  · unfold BL
    rw [pay_big]
    iintro ⟨⟨H1, H2, H3, H4, H5⟩, H6⟩
    isplitr [H1]
    · isplitl [H5]; · iexact H5
      isplitl [H4]; · iexact H4
      isplitl [H2]; · iexact H2
      isplitl [H3]; · iexact H3
      iexact H6
    · iexact H1

/-- The first `n` quarters of the result are there. -/
def OUT (m : (ℓ : Loc nD τ sig) → Buf (Elt F) ℓ) (B : Side c) (n : ℕ) : sProp 𝕄 :=
  iprop(∃ f, ⌜∀ j : Fin 4, j.val < n → ∀ i ∈ (outM.access (B.ooR j)).set, f i = outC m c i⌝ ∗ outP c f)

theorem out_write (hB : B.Good) (j : Fin 4) (f : S4096x1024.Idx → Elt F .bf16) (w : Vec F S1024x1024 .bf16)
    (hf : ∀ j' : Fin 4, j'.val < j.val → ∀ i ∈ (outM.access (B.ooR j')).set, f i = outC m c i)
    (g : S4096x1024.Idx → Elt F .bf16) (hg : g = (outM.access (B.ooR j)).write (Elt F) f w Finset.univ)
    (hw : ∀ i ∈ (outM.access (B.ooR j)).set, g i = outC m c i) :
    ∀ j' : Fin 4, j'.val < j.val + 1 → ∀ i ∈ (outM.access (B.ooR j')).set, g i = outC m c i := by
  intro j' hj' i hi
  by_cases h : i ∈ (outM.access (B.ooR j)).set
  · exact hw i h
  · have hne : j' ≠ j := fun e => h (e ▸ hi)
    rw [hg, View.write_of_not_mem]
    · exact hf j' (by have : j'.val ≠ j.val := fun e => hne (Fin.ext e); omega) i hi
    · exact h

theorem OUT_done (hB : B.Good) : OUT m B 4 ⊢ outP c (outC m c) := by
  unfold OUT
  iintro ⟨%f, %hf, H⟩
  have e : f = outC m c := funext fun i => by
    obtain ⟨j, hj⟩ := quarters_cover hB i
    exact hf j j.isLt i hj
  subst e
  iexact H

/-- The addition of quarter `j`, reading what came from `M`. -/
theorem addStore_tri (hB : B.Good) (j : Fin 4) (M : Memref sig .tc .vmem S2048x1024 .bf16) (S : Finset (M.view.loc (c : Thread nD τ)).2.ty.shape.Idx)
    (q : PosShare TreeShare) (g : Buf (Elt F) (M.view.loc (c : Thread nD τ))) (hS : (M.access (halfR (par4 j))).set ⊆ S)
    (hg : ∀ i : S1024x1024.Idx, M.view.readAt (Elt F) (halfR (par4 j)).toLoadRect g i
      = rnd (X m (other c (rowB c j)) (at3 (rowB c j + (i 0).val) (mine c + (i 1).val)))) :
    Tri m K c iprop(BL m c (par4 j) (j.val / 2) ∗ (M.view.loc (c : Thread nD τ) ↦[S]{q} g) ∗ OUT m B j.val) (addStore B j M)
      iprop(BF m c (par4 j) (j.val / 2 + 1) ∗ (M.view.loc (c : Thread nD τ) ↦[S]{q} g) ∗ OUT m B (j.val + 1)) := by
  unfold Tri BL BF OUT addStore
  rw [half_par4]
  simp only [Prog.lift, Prog.bind_op, Prog.bind_ret, Prog.pure_eq_ret]
  iintro ⟨#He, ⟨Hld, Hrest⟩, HM, ⟨%f, %hf, Ho⟩⟩
  iapply (wp_load_rect 𝒱₀ (c : Thread nD τ) none Set.univ (m := bigM) (r := bigR (par4 j)) (S := bigI (par4 j)) (q := fullShare) (f := bigC m c j)
    (by rw [show (bigM.access (bigR (par4 j))).set = bigI (par4 j) from View.set_slice_whole _ _])) $$ Hld
  iintro Hld
  iapply (wp_load_rect 𝒱₀ (c : Thread nD τ) none Set.univ (m := M) (r := halfR (par4 j)) (S := S) (q := q) (f := g) hS) $$ HM
  iintro HM
  iapply (wp_load_rect 𝒱₀ (c : Thread nD τ) none Set.univ (m := outM) (r := B.ooR j) (S := Finset.univ) (q := fullShare) (f := f)
    (Finset.subset_univ _)) $$ Ho
  iintro Ho
  iapply (wp_store 𝒱₀ (c : Thread nD τ) none Set.univ (m := outM) (r := B.ooR j) (S := Finset.univ) (f := f)
    (Finset.subset_univ _)) $$ Ho
  iintro Ho
  simp only [wp_ret]
  imodintro
  isplitl [Hld Hrest]
  · icases Hrest with ⟨H1, H2, H3, H4⟩
    isplitl [Hld]; · iexists (bigC m c j); iexact Hld
    isplitl [H1]; · iexact H1
    isplitl [H2]; · iexact H2
    isplitl [H3] <;> iassumption
  isplitl [HM]; · iexact HM
  iexists _
  isplitr
  · ipureintro
    exact out_write hB j f _ hf _ rfl (add_write m hB j f _ hg)
  · iexact Ho

end Cert.KernelIdeal.Line

end
-- ==== Proof.Sides.lean ====
/-
# One side of the mesh axis `x`, from its first load to its last addition

What stands before chunk `n` of the stream, before chunk `n` of the second exchange, before quarter `n` of the result,
and before the end of chunk `n`; each step takes one to the next.
-/
module

public import proofs.«01_k».proof.Proof.Actions

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The resources of a chunk -/

/-- For the exchange along `x`: its rows to send from and to write to, and the duties of the send. -/
def XA (s : Fin 16) : sProp 𝕄 :=
  iprop((∃ f, xsP c (rows s) f) ∗ (∃ f, xrP (xn c) (rows s) fullShare f)
    ∗ dutyTok ER (cell c (.ex 0 s)) 0 false ∗ dutyTok ER (cell (xn c) (.ex 1 s)) 0 false)
def XZ (s : Fin 16) : sProp 𝕄 := cred (tallyAt (cell c (.ex 0 s)) () NX)

/-- For the receive along `x` and the exchange along `y`. -/
def YA (s : Fin 16) : sProp 𝕄 :=
  iprop(cred (tallyAt (cell c (.ex 1 s)) () NX) ∗ atPos ER (cell c (.ex 1 s)) 0 ∅ 0 ∗ (∃ f, yrP (yn c) (rows s) f)
    ∗ dutyTok ER (cell c (.ex 2 s)) 0 false ∗ dutyTok ER (cell (yn c) (.ex 3 s)) 0 false)
def YZ (s : Fin 16) : sProp 𝕄 :=
  iprop(atPos ER (cell c (.ex 1 s)) 1 ∅ 0 ∗ cred (tallyAt (cell c (.ex 2 s)) () NX))

/-- For the receive along `y`. -/
def RA (s : Fin 16) : sProp 𝕄 :=
  iprop(cred (tallyAt (cell c (.ex 3 s)) () NX) ∗ atPos ER (cell c (.ex 3 s)) 0 ∅ 0)
def RZ (s : Fin 16) : sProp 𝕄 := atPos ER (cell c (.ex 3 s)) 1 ∅ 0

/-- For the ends of the two sends. -/
def FA (s : Fin 16) : sProp 𝕄 :=
  iprop((cred (tallyAt (cell c (.ex 0 s)) () NX) ∗ atPos ER (cell c (.ex 0 s)) 0 ∅ 0)
    ∗ (cred (tallyAt (cell c (.ex 2 s)) () NX) ∗ atPos ER (cell c (.ex 2 s)) 0 ∅ 0))
def FZ (s : Fin 16) : sProp 𝕄 :=
  iprop(atPos ER (cell c (.ex 0 s)) 1 ∅ 0 ∗ atPos ER (cell c (.ex 2 s)) 1 ∅ 0)

/-! ## The rows that came, and the rows that left -/

/-- The rows of the first `n` chunks. -/
abbrev upto (n : ℕ) : Finset S2048x1024.Idx := span 0 (128 * n)

theorem upto_zero : upto 0 = ∅ := span_empty 0
theorem upto_16 : upto 16 = Finset.univ := span_univ
theorem upto_succ (s : Fin 16) : upto (s.val + 1) = upto s.val ∪ rows s :=
  (span_union (Nat.zero_le _) (by omega)).symm
theorem upto_disj (s : Fin 16) : Disjoint (upto s.val) (rows s) := span_disjoint

def xrl (n : ℕ) : sProp 𝕄 := xrP c (upto n) fullShare.left (xrC m c)
def xrr (n : ℕ) : sProp 𝕄 := xrP c (upto n) fullShare.right (xrC m c)
def yrl (n : ℕ) : sProp 𝕄 := yrP c (upto n) (yrC m c)
def xsl (n : ℕ) : sProp 𝕄 := xsP c (upto n) (xsC m c)

variable {m c} {K : Dev nD × Role → ℕ} {B : Side c}

theorem xrl_grow (s : Fin 16) : iprop(xrl m c s.val ∗ xrP c (rows s) fullShare.left (xrC m c)) ⊢ xrl m c (s.val + 1) := by
  unfold xrl; rw [upto_succ]; exact (pointsTo_union (upto_disj s)).2
theorem xrr_grow (s : Fin 16) : iprop(xrr m c s.val ∗ xrP c (rows s) fullShare.right (xrC m c)) ⊢ xrr m c (s.val + 1) := by
  unfold xrr; rw [upto_succ]; exact (pointsTo_union (upto_disj s)).2
theorem yrl_grow (s : Fin 16) : iprop(yrl m c s.val ∗ yrP c (rows s) (yrC m c)) ⊢ yrl m c (s.val + 1) := by
  unfold yrl; rw [upto_succ]; exact (pointsTo_union (upto_disj s)).2
theorem xsl_grow (s : Fin 16) : iprop(xsl m c s.val ∗ xsP c (rows s) (xsC m c)) ⊢ xsl m c (s.val + 1) := by
  unfold xsl; rw [upto_succ]; exact (pointsTo_union (upto_disj s)).2

/-! ## The second exchange -/

theorem forward_tri (s : Fin 16) (i : ℕ) (hi : s.val < i) :
    Tri m K c iprop((OW c (OO c i s.val) ∗ xrl m c s.val) ∗ YA c s) (forward c s)
      iprop((OW c (OO c i (s.val + 1)) ∗ xrl m c (s.val + 1)) ∗ YZ c s) := by
  unfold forward
  refine Tri.seq (B := iprop((OW c (OO c i s.val) ∗ xrl m c (s.val + 1) ∗ atPos ER (cell c (.ex 1 s)) 1 ∅ 0)
    ∗ xrP c (rows s) fullShare.right (xrC m c) ∗ (∃ f, yrP (yn c) (rows s) f)
      ∗ dutyTok ER (cell c (.ex 2 s)) 0 false ∗ dutyTok ER (cell (yn c) (.ex 3 s)) 0 false)) ?_ ?_
  · refine (xRecvWait_tri s i hi).use (R := iprop(xrl m c s.val ∗ (∃ f, yrP (yn c) (rows s) f)
      ∗ dutyTok ER (cell c (.ex 2 s)) 0 false ∗ dutyTok ER (cell (yn c) (.ex 3 s)) 0 false)) ?_ ?_
    · unfold YA
      iintro ⟨⟨H1, H2⟩, H3, H4, H5⟩
      isplitl [H1 H3 H4]
      · isplitl [H3]; · iexact H3
        isplitl [H1] <;> iassumption
      isplitl [H2] <;> iassumption
    · iintro ⟨⟨H1, H2, -, H3⟩, H4, H5⟩
      ihave H3 := (pointsTo_share (PosShare.mem_left_op_right fullShare)).1 $$ H3
      icases H3 with ⟨H3, H6⟩
      isplitr [H5 H6]
      · isplitl [H1]; · iexact H1
        isplitr [H2]; · iapply (xrl_grow s); isplitl [H4] <;> iassumption
        iexact H2
      · isplitl [H6] <;> iassumption
  · refine (ySend_tri s i).use (R := iprop(xrl m c (s.val + 1) ∗ atPos ER (cell c (.ex 1 s)) 1 ∅ 0)) ?_ ?_
    · iintro ⟨⟨H1, H2⟩, H3⟩
      isplitr [H2]
      · isplitl [H1] <;> iassumption
      iexact H2
    · unfold YZ
      iintro ⟨⟨H1, H2⟩, H3, H4⟩
      isplitl [H1 H3]
      · isplitl [H1] <;> iassumption
      isplitl [H4] <;> iassumption

/-! ## The stream -/

abbrev sl (n : ℕ) : Fin 2 := ⟨n % 2, Nat.mod_lt _ (by decide)⟩
theorem sl_add (n : ℕ) : sl (n + 2) = sl n := Fin.ext (Nat.add_mod_right n 2)

variable (m c)

/-- The slots before chunk `n`: its load is under way, the other slot is free. -/
def SA (n : ℕ) : sProp 𝕄 := if n < 16 then LB c (sl n) (n / 2) else LF m c (sl n) (n / 2)
def SF (n : ℕ) : sProp 𝕄 := LF m c (sl n) (n / 2)

variable {m c}

theorem SF_add (n : ℕ) : SF m c (n + 2) = LF m c (sl n) (n / 2 + 1) := by
  unfold SF; rw [sl_add, Nat.add_div_right n (by decide)]

theorem prefetch_tri (hB : B.Good) (s : Fin 16) :
    Tri m K c (SF m c (s.val + 1)) (if h : s.val + 1 < 16 then loadStart B ⟨s.val + 1, h⟩ else .ret ⟨⟩) (SA m c (s.val + 1)) := by
  unfold SA SF
  split
  · next h => exact loadStart_tri hB ⟨s.val + 1, h⟩
  · next h => exact Tri.skip

/-- Before chunk `n` of the stream. -/
def SI (m : (ℓ : Loc nD τ sig) → Buf (Elt F) ℓ) (c : Dev nD) (n : ℕ) : sProp 𝕄 :=
  iprop((SA m c n ∗ SF m c (n + 1)) ∗ Fam (XA c) (XZ c) n ∗ (OW c (OO c n (n - 4)) ∗ xrl m c (n - 4)) ∗ Fam (YA c) (YZ c) (n - 4))

theorem exchange_tri (s : Fin 16) (j : ℕ) :
    Tri m K c iprop((OW c (OO c s.val j) ∗ xsP c (rows s) (xsC m c)) ∗ (∃ f, xrP (xn c) (rows s) fullShare f)
        ∗ dutyTok ER (cell c (.ex 0 s)) 0 false ∗ dutyTok ER (cell (xn c) (.ex 1 s)) 0 false)
      (xSend c s) iprop(OW c (OO c (s.val + 1) j) ∗ XZ c s) := by
  refine (xSend_tri s j).pre ?_
  iintro ⟨⟨H1, H2⟩, H3⟩
  isplitl [H1]; · iexact H1
  isplitl [H2] <;> iassumption

/-- A chunk goes from its slot to the neighbour along `x`. -/
theorem send_tri (s : Fin 16) (j : ℕ) :
    Tri m K c iprop((LB c (par s) (s.val / 2) ∗ OW c (OO c s.val j)) ∗ XA c s)
      (loadWait B s >>= fun _ => roundStore s >>= fun _ => xSend c s)
      iprop((SF m c (s.val + 2) ∗ OW c (OO c (s.val + 1) j)) ∗ XZ c s) := by
  rw [SF_add]
  refine Tri.seq (B := iprop((LL m c (par s) (s.val / 2) ∗ OW c (OO c s.val j)) ∗ XA c s)) (loadWait_tri s _ j).frame ?_
  refine Tri.seq (B := iprop((LF m c (par s) (s.val / 2 + 1) ∗ xsP c (rows s) (xsC m c)) ∗ OW c (OO c s.val j)
      ∗ (∃ f, xrP (xn c) (rows s) fullShare f)
        ∗ dutyTok ER (cell c (.ex 0 s)) 0 false ∗ dutyTok ER (cell (xn c) (.ex 1 s)) 0 false)) ?_ ?_
  · refine (roundStore_tri s).use (R := iprop(OW c (OO c s.val j) ∗ (∃ f, xrP (xn c) (rows s) fullShare f)
        ∗ dutyTok ER (cell c (.ex 0 s)) 0 false ∗ dutyTok ER (cell (xn c) (.ex 1 s)) 0 false)) ?_ (BI.Entails.refl _)
    unfold XA
    iintro ⟨⟨H1, H2⟩, H3, H4⟩
    isplitl [H1 H3]
    · isplitl [H1] <;> iassumption
    isplitl [H2] <;> iassumption
  · refine (exchange_tri s j).use (R := LF m c (par s) (s.val / 2 + 1)) ?_ ?_
    · iintro ⟨⟨H1, H2⟩, H3, H4⟩
      isplitr [H1]
      · isplitl [H2 H3]
        · isplitl [H3] <;> iassumption
        iexact H4
      iexact H1
    · iintro ⟨⟨H1, H2⟩, H3⟩
      isplitr [H2]
      · isplitl [H3] <;> iassumption
      iexact H2

theorem back_tri (s : Fin 16) :
    Tri m K c iprop((OW c (OO c (s.val + 1) (s.val - 4)) ∗ xrl m c (s.val - 4)) ∗ Fam (YA c) (YZ c) (s.val - 4))
      (if h : 4 ≤ s.val then forward c ⟨s.val - 4, by omega⟩ else .ret ⟨⟩)
      iprop((OW c (OO c (s.val + 1) (s.val + 1 - 4)) ∗ xrl m c (s.val + 1 - 4)) ∗ Fam (YA c) (YZ c) (s.val + 1 - 4)) := by
  split
  · next h =>
    rw [show s.val + 1 - 4 = s.val - 4 + 1 by omega]
    exact Tri.fam (⟨s.val - 4, by omega⟩ : Fin 16) (forward_tri ⟨s.val - 4, by omega⟩ (s.val + 1) (by show s.val - 4 < _; omega))
  · next h =>
    rw [show s.val + 1 - 4 = s.val - 4 by omega]
    exact Tri.skip

theorem Tri.assoc {A D : sProp 𝕄} {p q : P F} (h : Tri m K c A (p >>= fun _ => q) D) (r : P F) {E : sProp 𝕄} (h' : Tri m K c D r E) :
    Tri m K c A (p >>= fun _ => q >>= fun _ => r) E := by
  have h2 := h.seq h'
  rwa [show (((p >>= fun _ => q) >>= fun _ => r) : P F) = (p >>= fun _ => q >>= fun _ => r) from Prog.bind_assoc _ _ _] at h2

theorem stream_tri (hB : B.Good) (s : Fin 16) : Tri m K c (SI m c s.val) (stream B s) (SI m c (s.val + 1)) := by
  unfold SI stream
  refine Tri.seq (B := iprop((SA m c (s.val + 1)) ∗ SA m c s.val ∗ Fam (XA c) (XZ c) s.val
    ∗ (OW c (OO c s.val (s.val - 4)) ∗ xrl m c (s.val - 4)) ∗ Fam (YA c) (YZ c) (s.val - 4))) ?_ ?_
  · refine (prefetch_tri hB s).use (R := iprop(SA m c s.val ∗ Fam (XA c) (XZ c) s.val
      ∗ (OW c (OO c s.val (s.val - 4)) ∗ xrl m c (s.val - 4)) ∗ Fam (YA c) (YZ c) (s.val - 4))) ?_ (BI.Entails.refl _)
    iintro ⟨⟨H1, H2⟩, H3⟩
    isplitl [H2]; · iexact H2
    isplitl [H1] <;> iassumption
  have hs : SA m c s.val = LB c (par s) (s.val / 2) := if_pos s.isLt
  rw [hs]
  have h1 := ((Tri.fam (m := m) (K := K) s (send_tri (B := B) s (s.val - 4))).frame (R := iprop(SA m c (s.val + 1) ∗ xrl m c (s.val - 4) ∗ Fam (YA c) (YZ c) (s.val - 4))))
  have h2 := (back_tri (m := m) (K := K) (c := c) s).frame (R := iprop((SA m c (s.val + 1) ∗ SF m c (s.val + 2)) ∗ Fam (XA c) (XZ c) (s.val + 1)))
  have h3 := h1.seq (h2.pre (by
    iintro ⟨⟨⟨H1, H2⟩, H3⟩, H4, H5, H6⟩
    isplitl [H2 H5 H6]
    · isplitl [H2 H5]
      · isplitl [H2] <;> iassumption
      iexact H6
    · isplitl [H1 H4]
      · isplitl [H4] <;> iassumption
      iexact H3))
  refine (h3.pre ?_).post ?_
  · iintro ⟨H1, H2, H3, ⟨H4, H5⟩, H6⟩
    isplitl [H2 H3 H4]
    · isplitl [H2 H4]
      · isplitl [H2] <;> iassumption
      iexact H3
    · isplitl [H1]; · iexact H1
      isplitl [H5] <;> iassumption
  · iintro ⟨⟨H1, H2⟩, H3, H4⟩
    isplitl [H3]; · iexact H3
    isplitl [H4]; · iexact H4
    isplitl [H1] <;> iassumption

/-! ## The quarters -/

/-- The quarters' slots before quarter `n`. -/
def BA (m : (ℓ : Loc nD τ sig) → Buf (Elt F) ℓ) (c : Dev nD) (n : ℕ) : sProp 𝕄 := if n < 4 then BB c (sl n) (n / 2) else BF m c (sl n) (n / 2)
def BG (m : (ℓ : Loc nD τ sig) → Buf (Elt F) ℓ) (c : Dev nD) (n : ℕ) : sProp 𝕄 := BF m c (sl n) (n / 2)
theorem BG_add (n : ℕ) : BG m c (n + 2) = BF m c (sl n) (n / 2 + 1) := by
  unfold BG; rw [sl_add, Nat.add_div_right n (by decide)]

theorem bigfetch_tri (hB : B.Good) (j : Fin 4) :
    Tri m K c (BG m c (j.val + 1)) (if h : j.val + 1 < 4 then bigStart B ⟨j.val + 1, h⟩ else .ret ⟨⟩) (BA m c (j.val + 1)) := by
  unfold BA BG
  split
  · next h => exact bigStart_tri hB ⟨j.val + 1, h⟩
  · next h => exact Tri.skip

/-- The receives along `y` before chunk `n`. -/
def YR (m : (ℓ : Loc nD τ sig) → Buf (Elt F) ℓ) (c : Dev nD) (n : ℕ) : sProp 𝕄 :=
  iprop((OW c (OO c 16 16) ∗ yrl m c n) ∗ Fam (RA c) (RZ c) n)

theorem yRecv_tri (s : Fin 16) : Tri m K c (YR m c s.val) (yRecvWait s) (YR m c (s.val + 1)) := by
  unfold YR
  refine Tri.fam s ((yRecvWait_tri s).use (R := yrl m c s.val) ?_ ?_)
  · unfold RA
    iintro ⟨⟨H1, H2⟩, H3, H4⟩
    isplitr [H2]
    · isplitl [H3]; · iexact H3
      isplitl [H1] <;> iassumption
    iexact H2
  · unfold RZ
    iintro ⟨⟨H1, H2, -, H3⟩, H4⟩
    isplitr [H2]
    · isplitl [H1]; · iexact H1
      iapply (yrl_grow s)
      isplitl [H4] <;> iassumption
    iexact H2

theorem half_upto (j : Fin 4) (n : ℕ) (h : 8 * (j.val % 2 + 1) ≤ n) : (halfR (par4 j)).set ⊆ upto n := by
  rw [halfR_set]
  exact span_subset (Nat.zero_le _) (by show 1024 * (j.val % 2 + 1) ≤ 128 * n; omega)

/-- Before quarter `n`. -/
def QI (m : (ℓ : Loc nD τ sig) → Buf (Elt F) ℓ) {c : Dev nD} (B : Side c) (n : ℕ) : sProp 𝕄 :=
  iprop((BA m c n ∗ BG m c (n + 1)) ∗ OUT m B n ∗ xrl m c 16 ∗ YR m c (8 * (n - 2)))

theorem bigWait_YR (j : Fin 4) (n : ℕ) :
    Tri m K c iprop(BB c (par4 j) (j.val / 2) ∗ YR m c n) (bigWait B j) iprop(BL m c (par4 j) (j.val / 2) ∗ YR m c n) := by
  unfold YR
  refine (bigWait_tri j 16 16).use (R := iprop(yrl m c n ∗ Fam (RA c) (RZ c) n)) ?_ ?_
  · iintro ⟨H1, ⟨H2, H3⟩, H4⟩
    isplitl [H1 H2]
    · isplitl [H1] <;> iassumption
    isplitl [H3] <;> iassumption
  · iintro ⟨⟨H1, H2⟩, H3, H4⟩
    isplitl [H1]; · iexact H1
    isplitl [H2 H3]
    · isplitl [H2] <;> iassumption
    iexact H4

theorem add_tri (hB : B.Good) (j : Fin 4) :
    Tri m K c iprop(BL m c (par4 j) (j.val / 2) ∗ OUT m B j.val ∗ xrl m c 16 ∗ YR m c (8 * (j.val - 2)))
      (if h : j.val < 2 then addStore B j xrM else iter yRecvWait 8 (8 * (j.val - 2)) (by omega) >>= fun _ => addStore B j yrM)
      iprop(BG m c (j.val + 2) ∗ OUT m B (j.val + 1) ∗ xrl m c 16 ∗ YR m c (8 * (j.val + 1 - 2))) := by
  rw [BG_add]
  split
  · next h =>
    rw [show 8 * (j.val + 1 - 2) = 8 * (j.val - 2) by omega]
    refine (addStore_tri hB j xrM (upto 16) fullShare.left (xrC m c)
      (by rw [show (xrM.access (halfR (par4 j))).set = (halfR (par4 j)).set from View.set_slice_whole _ _]; exact half_upto j 16 (by omega))
      (half_x m j h)).use (R := YR m c (8 * (j.val - 2))) ?_ ?_
    · unfold xrl
      iintro ⟨H1, H2, H3, H4⟩
      isplitr [H4]
      · isplitl [H1]; · iexact H1
        isplitl [H3] <;> iassumption
      iexact H4
    · unfold xrl
      iintro ⟨⟨H1, H2, H3⟩, H4⟩
      isplitl [H1]; · iexact H1
      isplitl [H3]; · iexact H3
      isplitl [H2] <;> iassumption
  · next h =>
    have hw := (Tri.iter (m := m) (K := K) (c := c) (f := yRecvWait) (I := YR m c) 8 (8 * (j.val - 2)) (by omega) (fun s _ _ => yRecv_tri s)).frame
      (R := iprop(BL m c (par4 j) (j.val / 2) ∗ OUT m B j.val ∗ xrl m c 16))
    have hw := hw.post (Entails.of_eq (by rw [show 8 * (j.val - 2) + 8 = 8 * (j.val + 1 - 2) by omega]))
    refine (hw.pre ?_).seq ?_
    · iintro ⟨H1, H2, H3, H4⟩
      isplitl [H4]; · iexact H4
      isplitl [H1]; · iexact H1
      isplitl [H2] <;> iassumption
    refine (addStore_tri hB j yrM (upto (8 * (j.val + 1 - 2))) fullShare (yrC m c)
      (by rw [show (yrM.access (halfR (par4 j))).set = (halfR (par4 j)).set from View.set_slice_whole _ _]; exact half_upto j _ (by omega))
      (half_y m j h)).use (R := iprop(xrl m c 16 ∗ OW c (OO c 16 16) ∗ Fam (RA c) (RZ c) (8 * (j.val + 1 - 2)))) ?_ ?_
    · unfold YR yrl
      iintro ⟨⟨⟨H1, H2⟩, H3⟩, H4, H5, H6⟩
      isplitl [H2 H4 H5]
      · isplitl [H4]; · iexact H4
        isplitl [H2] <;> iassumption
      · isplitl [H6]; · iexact H6
        isplitl [H1] <;> iassumption
    · unfold YR yrl
      iintro ⟨⟨H1, H2, H3⟩, H4, H5, H6⟩
      isplitl [H1]; · iexact H1
      isplitl [H3]; · iexact H3
      isplitl [H4]; · iexact H4
      isplitl [H2 H5]
      · isplitl [H5] <;> iassumption
      iexact H6

theorem quarter_tri (hB : B.Good) (j : Fin 4) : Tri m K c (QI m B j.val) (quarter B j) (QI m B (j.val + 1)) := by
  unfold QI quarter
  have hs : BA m c j.val = BB c (par4 j) (j.val / 2) := if_pos j.isLt
  rw [hs]
  refine Tri.seq ((bigfetch_tri hB j).use (R := iprop(BB c (par4 j) (j.val / 2) ∗ OUT m B j.val ∗ xrl m c 16 ∗ YR m c (8 * (j.val - 2)))) ?_ (BI.Entails.refl _)) ?_
  · iintro ⟨⟨H1, H2⟩, H3⟩
    isplitl [H2]; · iexact H2
    isplitl [H1] <;> iassumption
  refine Tri.seq ((bigWait_YR j (8 * (j.val - 2))).use (R := iprop(BA m c (j.val + 1) ∗ OUT m B j.val ∗ xrl m c 16)) ?_ (BI.Entails.refl _)) ?_
  · iintro ⟨H1, H2, H3, H4, H5⟩
    isplitl [H2 H5]
    · isplitl [H2] <;> iassumption
    isplitl [H1]; · iexact H1
    isplitl [H3] <;> iassumption
  refine (add_tri hB j).use (R := BA m c (j.val + 1)) ?_ ?_
  · iintro ⟨⟨H1, H2⟩, H3, H4, H5⟩
    isplitr [H3]
    · isplitl [H1]; · iexact H1
      isplitl [H4]; · iexact H4
      isplitl [H5] <;> iassumption
    iexact H3
  · iintro ⟨⟨H1, H2⟩, H3⟩
    isplitr [H2]
    · isplitl [H3] <;> iassumption
    iexact H2

/-! ## The side -/

/-- What a side starts from. -/
def SP (m : (ℓ : Loc nD τ sig) → Buf (Elt F) ℓ) (c : Dev nD) : sProp 𝕄 :=
  iprop((LF m c 0 0 ∗ LF m c 1 0) ∗ (BF m c 0 0 ∗ BF m c 1 0) ∗ OW c (OO c 0 0) ∗ (∃ f, outP c f)
    ∗ bigSep Finset.univ (XA c) ∗ bigSep Finset.univ (YA c) ∗ bigSep Finset.univ (RA c))
/-- What it ends with. -/
def SQ (m : (ℓ : Loc nD τ sig) → Buf (Elt F) ℓ) (c : Dev nD) : sProp 𝕄 :=
  iprop((LF m c 0 8 ∗ LF m c 1 8) ∗ (BF m c 0 2 ∗ BF m c 1 2) ∗ OW c (OO c 16 16) ∗ outP c (outC m c)
    ∗ bigSep Finset.univ (XZ c) ∗ bigSep Finset.univ (YZ c) ∗ bigSep Finset.univ (RZ c) ∗ xrl m c 16 ∗ yrl m c 16)

theorem xrl_zero : (emp : sProp 𝕄) ⊢ xrl m c 0 := by unfold xrl; rw [upto_zero]; exact Entails.of_eq (pointsTo_empty (ℓ := (c : Thread nD τ).loc cc0_scratch3)).symm
theorem yrl_zero : (emp : sProp 𝕄) ⊢ yrl m c 0 := by unfold yrl; rw [upto_zero]; exact Entails.of_eq (pointsTo_empty (ℓ := (c : Thread nD τ).loc cc0_scratch4)).symm

theorem SI_start : iprop((LB c 0 0 ∗ LF m c 1 0) ∗ OW c (OO c 0 0) ∗ bigSep Finset.univ (XA c) ∗ bigSep Finset.univ (YA c)) ⊢ SI m c 0 := by
  unfold SI
  iintro ⟨H1, H2, H3, H4⟩
  isplitl [H1]; · iexact H1
  isplitl [H3]; · iapply (Fam.start (A := XA c) (Z := XZ c)); iexact H3
  isplitl [H2]
  · isplitl [H2]; · iexact H2
    iapply xrl_zero
    iempintro
  · iapply (Fam.start (A := YA c) (Z := YZ c)); iexact H4

theorem QI_start : iprop((BB c 0 0 ∗ BF m c 1 0) ∗ (∃ f, outP c f) ∗ xrl m c 16 ∗ OW c (OO c 16 16) ∗ bigSep Finset.univ (RA c)) ⊢ QI m B 0 := by
  unfold QI YR OUT
  iintro ⟨H1, ⟨%f, H2⟩, H3, H4, H5⟩
  isplitl [H1]; · iexact H1
  isplitl [H2]
  · iexists f
    isplitr; · ipureintro; exact fun j h => absurd h (Nat.not_lt_zero _)
    iexact H2
  isplitl [H3]; · iexact H3
  isplitl [H4]
  · isplitl [H4]; · iexact H4
    iapply yrl_zero
    iempintro
  · iapply (Fam.start (A := RA c) (Z := RZ c)); iexact H5

/-- Before chunk `n` of the last forwards. -/
def GI (m : (ℓ : Loc nD τ sig) → Buf (Elt F) ℓ) (c : Dev nD) (n : ℕ) : sProp 𝕄 :=
  iprop((OW c (OO c 16 n) ∗ xrl m c n) ∗ Fam (YA c) (YZ c) n)

theorem side_tri (hB : B.Good) : Tri m K c (SP m c) (side B) (SQ m c) := by
  unfold side
  refine Tri.seq ((loadStart_tri hB 0).use (R := iprop(LF m c 1 0 ∗ (BF m c 0 0 ∗ BF m c 1 0) ∗ OW c (OO c 0 0) ∗ (∃ f, outP c f)
    ∗ bigSep Finset.univ (XA c) ∗ bigSep Finset.univ (YA c) ∗ bigSep Finset.univ (RA c))) ?_ (BI.Entails.refl _)) ?_
  · unfold SP
    iintro ⟨⟨H1, H2⟩, H3⟩
    isplitl [H1]; · iexact H1
    isplitl [H2] <;> iassumption
  refine Tri.seq ((Tri.iter (I := SI m c) 16 0 (by decide) (fun s _ _ => stream_tri hB s)).use
    (R := iprop((BF m c 0 0 ∗ BF m c 1 0) ∗ (∃ f, outP c f) ∗ bigSep Finset.univ (RA c))) ?_ (BI.Entails.refl _)) ?_
  · iintro ⟨H1, H2, H3, H4, H5, H6, H7, H8⟩
    isplitr [H3 H5 H8]
    · iapply SI_start
      isplitl [H1 H2]
      · isplitl [H1]; · iexact H1
        iexact H2
      isplitl [H4]; · iexact H4
      isplitl [H6] <;> iassumption
    · isplitl [H3]; · iexact H3
      isplitl [H5] <;> iassumption
  refine Tri.seq ((Tri.iter (I := GI m c) 4 12 (by decide) (fun s _ _ => Tri.fam s (forward_tri s 16 s.isLt))).use
    (R := iprop((LF m c 0 8 ∗ LF m c 1 8) ∗ (BF m c 0 0 ∗ BF m c 1 0) ∗ (∃ f, outP c f) ∗ bigSep Finset.univ (XZ c) ∗ bigSep Finset.univ (RA c))) ?_ (BI.Entails.refl _)) ?_
  · unfold SI GI
    iintro ⟨⟨H1, H2, H3, H4⟩, H5, H6, H7⟩
    isplitl [H3 H4]
    · isplitl [H3] <;> iassumption
    isplitl [H1]; · iexact H1
    isplitl [H5]; · iexact H5
    isplitl [H6]; · iexact H6
    isplitl [H2]; · iapply (Fam.done (A := XA c) (Z := XZ c)); iexact H2
    iexact H7
  refine Tri.seq ((bigStart_tri hB 0).use (R := iprop(GI m c 16 ∗ (LF m c 0 8 ∗ LF m c 1 8) ∗ BF m c 1 0 ∗ (∃ f, outP c f) ∗ bigSep Finset.univ (XZ c) ∗ bigSep Finset.univ (RA c))) ?_ (BI.Entails.refl _)) ?_
  · iintro ⟨H1, H2, ⟨H3, H4⟩, H5⟩
    isplitl [H3]; · iexact H3
    isplitl [H1]; · iexact H1
    isplitl [H2]; · iexact H2
    isplitl [H4] <;> iassumption
  have hq : Tri m K c (QI m B 0) (quarter B 0 >>= fun _ => quarter B 1 >>= fun _ => quarter B 2 >>= fun _ => quarter B 3) (QI m B 4) :=
    (quarter_tri hB 0).seq ((quarter_tri hB 1).seq ((quarter_tri hB 2).seq (quarter_tri hB 3)))
  refine hq.use (R := iprop((LF m c 0 8 ∗ LF m c 1 8) ∗ bigSep Finset.univ (XZ c) ∗ bigSep Finset.univ (YZ c))) ?_ ?_
  · unfold GI
    iintro ⟨H1, ⟨⟨H2, H3⟩, H4⟩, H5, H6, H7, H8, H9⟩
    isplitl [H1 H6 H7 H2 H3 H9]
    · iapply QI_start
      isplitl [H1 H6]
      · isplitl [H1]; · iexact H1
        iexact H6
      isplitl [H7]; · iexact H7
      isplitl [H3]; · iexact H3
      isplitl [H2] <;> iassumption
    · isplitl [H5]; · iexact H5
      isplitl [H8]; · iexact H8
      iapply (Fam.done (A := YA c) (Z := YZ c)); iexact H4
  · unfold QI YR SQ
    iintro ⟨⟨H1, H2, H3, ⟨H4, H5⟩, H6⟩, H7, H8, H9⟩
    isplitl [H7]; · iexact H7
    isplitl [H1]; · iexact H1
    isplitl [H4]; · iexact H4
    isplitl [H2]; · iapply (OUT_done hB); iexact H2
    isplitl [H8]; · iexact H8
    isplitl [H9]; · iexact H9
    isplitl [H6]; · iapply (Fam.done (A := RA c) (Z := RZ c)); iexact H6
    isplitl [H3] <;> iassumption

/-! ## The ends of the sends -/

def FI (m : (ℓ : Loc nD τ sig) → Buf (Elt F) ℓ) (c : Dev nD) (n : ℕ) : sProp 𝕄 :=
  iprop((OW c (OO c 16 16) ∗ xsl m c n ∗ xrr m c n) ∗ Fam (FA c) (FZ c) n)

theorem finish_tri (s : Fin 16) : Tri m K c (FI m c s.val) (finish s) (FI m c (s.val + 1)) := by
  unfold FI finish
  refine Tri.fam s ?_
  unfold FA FZ
  refine Tri.seq ((xSendWait_tri s).use (R := iprop(xsl m c s.val ∗ xrr m c s.val ∗ (cred (tallyAt (cell c (.ex 2 s)) () NX) ∗ atPos ER (cell c (.ex 2 s)) 0 ∅ 0))) ?_ (BI.Entails.refl _)) ?_
  · iintro ⟨⟨H1, H2, H3⟩, ⟨H4, H5⟩, H6⟩
    isplitl [H1 H4 H5]
    · isplitl [H4]; · iexact H4
      isplitl [H1] <;> iassumption
    isplitl [H2]; · iexact H2
    isplitl [H3] <;> iassumption
  refine (ySendWait_tri s).use (R := iprop(xsl m c (s.val + 1) ∗ xrr m c s.val ∗ atPos ER (cell c (.ex 0 s)) 1 ∅ 0)) ?_ ?_
  · iintro ⟨⟨H1, H2, -, H3⟩, H4, H5, H6, H7⟩
    isplitl [H1 H6 H7]
    · isplitl [H6]; · iexact H6
      isplitl [H1] <;> iassumption
    isplitl [H3 H4]
    · iapply (xsl_grow s)
      isplitl [H4] <;> iassumption
    isplitl [H5] <;> iassumption
  · iintro ⟨⟨H1, H2, -, H3⟩, H4, H5, H6⟩
    isplitl [H1 H3 H4 H5]
    · isplitl [H1]; · iexact H1
      isplitl [H4]; · iexact H4
      iapply (xrr_grow s)
      isplitl [H5] <;> iassumption
    isplitl [H6] <;> iassumption

end Cert.KernelIdeal.Line

end
-- ==== Proof.Lines.lean ====
/-
# The whole kernel on one device

What a device starts with and what it ends with, the handshake with both neighbours, and the triple of the line: the
handshake, the device's side of the mesh axis `x`, and the ends of the sends.
-/
module

public import proofs.«01_k».proof.Proof.Sides

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Whole buffers and their pieces -/

theorem rows_disj : ∀ s ∈ (Finset.univ : Finset (Fin 16)), ∀ t ∈ (Finset.univ : Finset (Fin 16)), s ≠ t → Disjoint (rows s) (rows t) := by
  intro s _ t _ h
  have hne : s.val ≠ t.val := fun e => h (Fin.ext e)
  rw [Finset.disjoint_left]
  intro i
  rw [mem_span, mem_span]
  omega

theorem rows_cover : (Finset.univ : Finset (Fin 16)).biUnion rows = (Finset.univ : Finset S2048x1024.Idx) := by
  ext i
  have hi : (i 0).val < 2048 := (i 0).isLt
  rw [Finset.mem_biUnion]
  refine ⟨fun _ => Finset.mem_univ _, fun _ => ⟨⟨(i 0).val / 128, by omega⟩, Finset.mem_univ _, ?_⟩⟩
  rw [mem_span]
  show 128 * ((i 0).val / 128) ≤ _ ∧ _ < 128 * ((i 0).val / 128 + 1)
  omega

/-- A buffer cut into pieces, each at the same contents. -/
theorem cut {ℓ : Loc nD τ sig} {q : PosShare TreeShare} (I : Fin 16 → Finset (Idx ℓ)) (f : Buf (Elt F) ℓ)
    (hd : ∀ s ∈ (Finset.univ : Finset (Fin 16)), ∀ t ∈ (Finset.univ : Finset (Fin 16)), s ≠ t → Disjoint (I s) (I t)) (hc : Finset.univ.biUnion I = Finset.univ) :
    (ℓ ↦{q} f : sProp 𝕄) ⊢ bigSep Finset.univ fun s : Fin 16 => iprop(∃ f, ℓ ↦[I s]{q} f) := by
  rw [← hc, pointsTo_biUnion Finset.univ I hd]
  refine bigSep_mono fun s _ => ?_
  show (ℓ ↦[I s]{q} f : sProp 𝕄) ⊢ _
  iintro H; iexists f; iexact H

theorem xs_rows (d : Dev nD) (f : S2048x1024.Idx → Elt F .bf16) :
    (xsP d Finset.univ f : sProp 𝕄) ⊢ bigSep Finset.univ fun s : Fin 16 => iprop(∃ f, xsP d (rows s) f) :=
  cut (ℓ := (d : Thread nD τ).loc cc0_scratch2) (q := fullShare) rows f rows_disj rows_cover
theorem xr_rows (d : Dev nD) (f : S2048x1024.Idx → Elt F .bf16) :
    (xrP d Finset.univ fullShare f : sProp 𝕄) ⊢ bigSep Finset.univ fun s : Fin 16 => iprop(∃ f, xrP d (rows s) fullShare f) :=
  cut (ℓ := (d : Thread nD τ).loc cc0_scratch3) (q := fullShare) rows f rows_disj rows_cover
theorem yr_rows (d : Dev nD) (f : S2048x1024.Idx → Elt F .bf16) :
    (yrP d Finset.univ f : sProp 𝕄) ⊢ bigSep Finset.univ fun s : Fin 16 => iprop(∃ f, yrP d (rows s) f) :=
  cut (ℓ := (d : Thread nD τ).loc cc0_scratch4) (q := fullShare) rows f rows_disj rows_cover

theorem ld_split (f : S2x128x1024.Idx → Elt F .f32) : (ldP c Finset.univ f : sProp 𝕄) ⊢ iprop(ldP c (ldI 0) f ∗ ldP c (ldI 1) f) := by
  rw [← ldI_univ]; exact (pointsTo_union ldI_disj).1
theorem big_split (f : S2x1024x1024.Idx → Elt F .f32) : (bigP c Finset.univ f : sProp 𝕄) ⊢ iprop(bigP c (bigI 0) f ∗ bigP c (bigI 1) f) := by
  rw [← bigI_univ]; exact (pointsTo_union bigI_disj).1
theorem ld_join (f g : S2x128x1024.Idx → Elt F .f32) : iprop(ldP c (ldI 0) f ∗ ldP c (ldI 1) g) ⊢ (iprop(∃ f, ldP c Finset.univ f) : sProp 𝕄) := by
  rw [← ldI_univ]
  refine (pointsTo_join ldI_disj).trans ?_
  iintro H; iexists _; iexact H
theorem big_join (f g : S2x1024x1024.Idx → Elt F .f32) : iprop(bigP c (bigI 0) f ∗ bigP c (bigI 1) g) ⊢ (iprop(∃ f, bigP c Finset.univ f) : sProp 𝕄) := by
  rw [← bigI_univ]
  refine (pointsTo_join bigI_disj).trans ?_
  iintro H; iexists _; iexact H

theorem x_split (f : S1x4096x2048.Idx → Elt F .f32) :
    (xP c fullShare f : sProp 𝕄) ⊢ iprop((xP c (qx 0 0) f ∗ xP c (qx 0 1) f) ∗ xP c (qx 1 0) f ∗ xP c (qx 1 1) f) := by
  iintro H
  ihave H := (pointsTo_share (PosShare.mem_left_op_right fullShare)).1 $$ H
  icases H with ⟨H1, H2⟩
  isplitl [H1]
  · iapply (pointsTo_share (PosShare.mem_left_op_right fullShare.left)).1; iexact H1
  · iapply (pointsTo_share (PosShare.mem_left_op_right fullShare.right)).1; iexact H2
theorem x_join (f : S1x4096x2048.Idx → Elt F .f32) :
    iprop((xP c (qx 0 0) f ∗ xP c (qx 0 1) f) ∗ xP c (qx 1 0) f ∗ xP c (qx 1 1) f) ⊢ (xP c fullShare f : sProp 𝕄) := by
  iintro ⟨H1, H2⟩
  iapply (pointsTo_share (PosShare.mem_left_op_right fullShare)).2
  isplitl [H1]
  · iapply (pointsTo_share (PosShare.mem_left_op_right fullShare.left)).2; iexact H1
  · iapply (pointsTo_share (PosShare.mem_left_op_right fullShare.right)).2; iexact H2

/-! ## Before and after -/

/-- A device's scratch buffers, at some contents. -/
def scr : sProp 𝕄 :=
  iprop((∃ f, ldP c Finset.univ f) ∗ (∃ f, bigP c Finset.univ f) ∗ (∃ f, xsP c Finset.univ f)
    ∗ (∃ f, xrP c Finset.univ fullShare f) ∗ (∃ f, yrP c Finset.univ f))

/-- The positions of a device's semaphores, the duties it pays, and what it may wait for. -/
def posB : sProp 𝕄 := iprop(dutyTok ER (cell (xn c) .bar) 0 false ∗ dutyTok ER (cell (yn c) .bar) 0 true
  ∗ cred (tallyAt (cell c .bar) () 2) ∗ atPos ER (cell c .bar) 0 ∅ 0)
def posX (s : Fin 16) : sProp 𝕄 := iprop(dutyTok ER (cell c (.ex 0 s)) 0 false ∗ dutyTok ER (cell (xn c) (.ex 1 s)) 0 false)
def posY (s : Fin 16) : sProp 𝕄 := iprop(dutyTok ER (cell c (.ex 2 s)) 0 false ∗ dutyTok ER (cell (yn c) (.ex 3 s)) 0 false)
def posE (k : Fin 4) : sProp 𝕄 := bigSep Finset.univ fun s : Fin 16 => atPos ER (cell c (.ex k s)) 0 ∅ 0
def crE (k : Fin 4) : sProp 𝕄 := bigSep Finset.univ fun s : Fin 16 => cred (tallyAt (cell c (.ex k s)) () NX)
def posS (a b : Fin 2) : sProp 𝕄 := iprop(atPos ER (cell c (.slot a b)) 0 ∅ 0 ∗ toks c a b 0)

def pos : sProp 𝕄 :=
  iprop(posB c ∗ (bigSep Finset.univ (posX c) ∗ bigSep Finset.univ (posY c)) ∗ (posE c 0 ∗ posE c 1 ∗ posE c 2 ∗ posE c 3)
    ∗ (crE c 1 ∗ crE c 3) ∗ (posS c 0 0 ∗ posS c 0 1) ∗ posS c 1 0 ∗ posS c 1 1)

/-- What a device starts with. -/
def LP : sProp 𝕄 := iprop(pos c ∗ OW c (O₀ c) ∗ xP c fullShare (X m c) ∗ (∃ f, outP c f) ∗ scr c)

/-- Every semaphore has gone through all its rounds. -/
def fin : sProp 𝕄 := bigSep Finset.univ fun ρ : Role => atPos ER (cell c ρ) (last ρ) ∅ 0

/-- What it ends with. -/
def LQ : sProp 𝕄 := iprop(fin c ∗ OW c 0 ∗ xP c fullShare (X m c) ∗ outP c (outC m c) ∗ scr c)

/-- After the handshake. -/
def LM : sProp 𝕄 := iprop(SP m c ∗ atPos ER (cell c .bar) 1 ∅ 0 ∗ posE c 0 ∗ posE c 2)
/-- After the side. -/
def LN : sProp 𝕄 := iprop(SQ m c ∗ atPos ER (cell c .bar) 1 ∅ 0 ∗ posE c 0 ∗ posE c 2)

variable {m c} {K : Dev nD × Role → ℕ} {B : Side c}

theorem chain {P Q R : sProp 𝕄} (h : P ⊢ Q) (h' : Q ⊢ R) : P ⊢ R := h.trans h'
theorem same {Φ : Fin 16 → sProp 𝕄} (Ψ : Fin 16 → sProp 𝕄) (h : ∀ s, Φ s = Ψ s) : bigSep Finset.univ Φ ⊢ bigSep Finset.univ Ψ :=
  Entails.of_eq (congrArg _ (funext h))

theorem XA_intro : iprop((bigSep Finset.univ fun s : Fin 16 => iprop(∃ f, xsP c (rows s) f)) ∗ (bigSep Finset.univ fun s : Fin 16 => iprop(∃ f, xrP (xn c) (rows s) fullShare f))
    ∗ bigSep Finset.univ (posX (F := F) c)) ⊢ bigSep Finset.univ (XA (F := F) c) := by
  refine chain ?_ (same (Φ := fun s : Fin 16 => iprop((∃ f, xsP c (rows s) f) ∗ (∃ f, xrP (xn c) (rows s) fullShare f) ∗ posX (F := F) c s))
    _ fun s => rfl)
  rw [bigSep_sep', bigSep_sep']

theorem YA_intro : iprop(crE c 1 ∗ posE c 1 ∗ (bigSep Finset.univ fun s : Fin 16 => iprop(∃ f, yrP (yn c) (rows s) f))
    ∗ bigSep Finset.univ (posY (F := F) c)) ⊢ bigSep Finset.univ (YA (F := F) c) := by
  refine chain ?_ (same (Φ := fun s : Fin 16 => iprop(cred (tallyAt (cell c (.ex 1 s)) () NX) ∗ atPos ER (cell c (.ex 1 s)) 0 ∅ 0
    ∗ (∃ f, yrP (yn c) (rows s) f) ∗ posY (F := F) c s)) _ fun s => rfl)
  unfold crE posE
  rw [bigSep_sep', bigSep_sep', bigSep_sep']

theorem RA_intro : iprop(crE c 3 ∗ posE c 3) ⊢ bigSep Finset.univ (RA (F := F) c) := by
  refine chain ?_ (same (Φ := fun s : Fin 16 => iprop(cred (tallyAt (cell c (.ex 3 s)) () NX) ∗ atPos ER (cell c (.ex 3 s)) 0 ∅ 0)) _ fun s => rfl)
  unfold crE posE
  rw [bigSep_sep']

theorem FA_intro : iprop((bigSep Finset.univ (XZ (F := F) c) ∗ posE c 0) ∗ (crE c 2 ∗ posE c 2)) ⊢ bigSep Finset.univ (FA (F := F) c) := by
  refine chain ?_ (same (Φ := fun s : Fin 16 => iprop((XZ (F := F) c s ∗ atPos ER (cell c (.ex 0 s)) 0 ∅ 0)
    ∗ (cred (tallyAt (cell c (.ex 2 s)) () NX) ∗ atPos ER (cell c (.ex 2 s)) 0 ∅ 0))) _ fun s => rfl)
  unfold crE posE
  rw [bigSep_sep', bigSep_sep', bigSep_sep']

theorem YZ_elim : bigSep Finset.univ (YZ (F := F) c) ⊢ iprop((bigSep Finset.univ fun s : Fin 16 => atPos ER (cell c (.ex 1 s)) 1 ∅ 0) ∗ crE c 2) := by
  refine chain (same (fun s : Fin 16 => iprop(atPos ER (cell c (.ex 1 s)) 1 ∅ 0 ∗ cred (tallyAt (cell c (.ex 2 s)) () NX))) fun s => rfl) ?_
  unfold crE
  rw [bigSep_sep']
theorem FZ_elim : bigSep Finset.univ (FZ (F := F) c) ⊢ iprop((bigSep Finset.univ fun s : Fin 16 => atPos ER (cell c (.ex 0 s)) 1 ∅ 0)
    ∗ bigSep Finset.univ fun s : Fin 16 => atPos ER (cell c (.ex 2 s)) 1 ∅ 0) := by
  refine chain (same (fun s : Fin 16 => iprop(atPos ER (cell c (.ex 0 s)) 1 ∅ 0 ∗ atPos ER (cell c (.ex 2 s)) 1 ∅ 0)) fun s => rfl) ?_
  rw [bigSep_sep']

theorem LF_intro (b : Fin 2) (f : S2x128x1024.Idx → Elt F .f32) :
    iprop(env m K ∗ ldP c (ldI b) f ∗ xP c (qx 0 b) (X m c) ∗ posS c 0 b) ⊢ LF m c b 0 := by
  unfold LF posS
  iintro ⟨#He, H1, H2, H3, H4⟩
  isplitl [H1]; · iexists f; iexact H1
  isplitl [H2]; · iexact H2
  isplitl [H3]; · iexact H3
  isplitr; · iapply (reached_of m K c (.slot 0 b)); iexact He
  iexact H4
theorem BF_intro (b : Fin 2) (f : S2x1024x1024.Idx → Elt F .f32) :
    iprop(env m K ∗ bigP c (bigI b) f ∗ xP c (qx 1 b) (X m c) ∗ posS c 1 b) ⊢ BF m c b 0 := by
  unfold BF posS
  iintro ⟨#He, H1, H2, H3, H4⟩
  isplitl [H1]; · iexists f; iexact H1
  isplitl [H2]; · iexact H2
  isplitl [H3]; · iexact H3
  isplitr; · iapply (reached_of m K c (.slot 1 b)); iexact He
  iexact H4

/-- Both double buffers, free, and the operand dealt to them. -/
theorem slots_intro (f : S2x128x1024.Idx → Elt F .f32) (g : S2x1024x1024.Idx → Elt F .f32) :
    iprop(env m K ∗ ldP c Finset.univ f ∗ bigP c Finset.univ g ∗ xP c fullShare (X m c) ∗ (posS c 0 0 ∗ posS c 0 1) ∗ posS c 1 0 ∗ posS c 1 1)
      ⊢ iprop((LF m c 0 0 ∗ LF m c 1 0) ∗ (BF m c 0 0 ∗ BF m c 1 0)) := by
  iintro ⟨#He, H1, H2, H3, ⟨P1, P2⟩, P3, P4⟩
  ihave H1 := (ld_split c f) $$ H1
  icases H1 with ⟨L1, L2⟩
  ihave H2 := (big_split c g) $$ H2
  icases H2 with ⟨B1, B2⟩
  ihave H3 := (x_split c (X m c)) $$ H3
  icases H3 with ⟨⟨X1, X2⟩, X3, X4⟩
  isplitl [L1 L2 X1 X2 P1 P2]
  · isplitl [L1 X1 P1]
    · iapply (LF_intro (K := K) 0 f)
      isplitr; · iexact He
      isplitl [L1]; · iexact L1
      isplitl [X1] <;> iassumption
    · iapply (LF_intro (K := K) 1 f)
      isplitr; · iexact He
      isplitl [L2]; · iexact L2
      isplitl [X2] <;> iassumption
  · isplitl [B1 X3 P3]
    · iapply (BF_intro (K := K) 0 g)
      isplitr; · iexact He
      isplitl [B1]; · iexact B1
      isplitl [X3] <;> iassumption
    · iapply (BF_intro (K := K) 1 g)
      isplitr; · iexact He
      isplitl [B2]; · iexact B2
      isplitl [X4] <;> iassumption

theorem lvS_bar : lvS (csem .bar) = 1 := lvS_csem .bar

/-- The handshake with both neighbours. -/
theorem barrier_wp {α : Type} (k : Dev nD → Prog (TpuEff nD τ sig (Elt F) Λ₀ .tc) α) (Q : α → sProp 𝕄) :
    iprop(env m K ∗ LP m c ∗ (LM m c -∗ wp frame (wpE (defs₀ (F := F)) 𝒱₀ (c : Thread nD τ) none) Set.univ (k c) Q))
      ⊢ wp frame (wpE (defs₀ (F := F)) 𝒱₀ (c : Thread nD τ) none) Set.univ
        (Prog.lift .deviceId >>= fun d0 : Dev nD =>
          semSignalWord (xn d0) barrier 1#32 >>= fun _ => semSignalWord (yn d0) barrier 1#32 >>= fun _ =>
          semWaitWord barrier 2#32 >>= fun _ => k d0) Q := by
  have hmay : env m K ⊢ MayWait (c : Thread nD τ) (csem .bar) () (OO c 0 0) :=
    know_levels m K (mayWait_OO c _ 0 0 (fun s _ => by rw [lvS_bar]; omega) (fun s _ => by rw [lvS_bar]; omega))
  simp only [Prog.lift, Prog.bind_op, Prog.bind_ret, Prog.pure_eq_ret, wp_deviceId, semSignalWord, semWaitWord]
  unfold LP LM pos posB scr OW
  iintro ⟨#He, ⟨⟨⟨T1, T2, Cb, Ab⟩, ⟨PX, PY⟩, ⟨E0, E1, E2, E3⟩, ⟨C1, C3⟩, PS⟩, ⟨%W, HO⟩, Hx, Hout, ⟨%f1, Hld⟩, ⟨%f2, Hbig⟩, ⟨%f3, Hxs⟩, ⟨%f4, Hxr⟩, ⟨%f5, Hyr⟩⟩, Hk⟩
  iapply (Rounds.wp_signal 𝒱₀ ER (Rd m) (c : Thread nD τ) none (dst := (xn c : Thread nD τ)) (κ := K (xn c, .bar))
      (d := false) (mem_bar m (xn c) false) ((amount_cell m (xn c) .bar 0 false).trans (by decide)) () (OO c 0 0 + tallyAt (cell (yn c) .bar) () 1) rfl)
    $$ [HO T1 Hxr]
  · isplitr; · iapply (inv_of m K (xn c) .bar); iexact He
    isplitl [HO]; · iexact HO
    isplitl [T1]; · iexact T1
    isplitl [Hxr]
    · rw [show (Rd m).payload ((xn c : Thread nD τ), SemLoc.reg barrier) 0 false = pay m (xn c) .bar 0 false from payload_cell m (xn c) .bar 0 false,
        show pay m (xn c) .bar 0 false = iprop(∃ f, xrP (xn (xn c)) Finset.univ fullShare f) from rfl, xn_xn]
      iexists f4; iexact Hxr
    · iapply (reached_of m K (xn c) .bar); iexact He
  iintro HO
  iapply (Rounds.wp_signal 𝒱₀ ER (Rd m) (c : Thread nD τ) none (dst := (yn c : Thread nD τ)) (κ := K (yn c, .bar))
      (d := true) (mem_bar m (yn c) true) ((amount_cell m (yn c) .bar 0 true).trans (by decide)) () (OO c 0 0) rfl)
    $$ [HO T2 Hyr]
  · isplitr; · iapply (inv_of m K (yn c) .bar); iexact He
    isplitl [HO]; · iexact HO
    isplitl [T2]; · iexact T2
    isplitl [Hyr]
    · rw [show (Rd m).payload ((yn c : Thread nD τ), SemLoc.reg barrier) 0 true = pay m (yn c) .bar 0 true from payload_cell m (yn c) .bar 0 true,
        show pay m (yn c) .bar 0 true = iprop(∃ f, yrP (yn (yn c)) Finset.univ f) from rfl, yn_yn]
      iexists f5; iexact Hyr
    · iapply (reached_of m K (yn c) .bar); iexact He
  iintro HO
  iapply (Rounds.wp_wait_rest_token 𝒱₀ ER (Rd m) (c : Thread nD τ) none (κ := K (c, .bar))
      (wpE_semWait_eq 𝒱₀ (c : Thread nD τ) none Set.univ) (Set.mem_univ _) () (O := OO c 0 0) (W := W) (R := 0) (m := 0) (T := ∅)
      (by rw [expect_bar]; decide)) $$ [Cb HO Ab]
  · isplitr; · iapply (inv_of m K c .bar); iexact He
    isplitl [Cb]; · iexact Cb
    isplitl [HO]; · iexact HO
    isplitr; · iapply hmay; iexact He
    iexact Ab
  iintro ⟨HO, Ab, -, Hpay⟩
  ihave Hp := (Entails.of_eq (rest_bar m c)) $$ Hpay
  rw [show pay m c .bar 0 false = iprop(∃ f, xrP (xn c) Finset.univ fullShare f) from rfl,
    show pay m c .bar 0 true = iprop(∃ f, yrP (yn c) Finset.univ f) from rfl]
  icases Hp with ⟨⟨%g1, Hxr⟩, ⟨%g2, Hyr⟩⟩
  ihave Hxs := (xs_rows c f3) $$ Hxs
  ihave Hxr := (xr_rows (xn c) g1) $$ Hxr
  ihave Hyr := (yr_rows (yn c) g2) $$ Hyr
  ihave HS := (slots_intro (m := m) (K := K) (c := c) f1 f2) $$ [Hld Hbig Hx PS]
  · isplitr; · iexact He
    isplitl [Hld]; · iexact Hld
    isplitl [Hbig]; · iexact Hbig
    isplitl [Hx] <;> iassumption
  icases HS with ⟨HS1, HS2⟩
  iapply Hk
  isplitr [Ab E0 E2]
  · unfold SP OW
    isplitl [HS1]; · iexact HS1
    isplitl [HS2]; · iexact HS2
    isplitl [HO]; · iexists _; iexact HO
    isplitl [Hout]; · iexact Hout
    isplitl [Hxs Hxr PX]
    · iapply XA_intro
      isplitl [Hxs]; · iexact Hxs
      isplitl [Hxr] <;> iassumption
    isplitl [C1 E1 Hyr PY]
    · iapply YA_intro
      isplitl [C1]; · iexact C1
      isplitl [E1]; · iexact E1
      isplitl [Hyr] <;> iassumption
    · iapply RA_intro
      isplitl [C3] <;> iassumption
  · isplitl [Ab]; · iexact Ab
    isplitl [E0] <;> iassumption

/-- A step followed by anything. -/
theorem Tri.bind {α : Type} {A D : sProp 𝕄} {p : P F} (h : Tri m K c A p D) (k : PUnit → Prog (TpuEff nD τ sig (Elt F) Λ₀ .tc) α) (Q : α → sProp 𝕄) :
    iprop(env m K ∗ A ∗ (D -∗ wp Idealize.ShloMosaic.frame (wpE (defs₀ (F := F)) 𝒱₀ (c : Thread nD τ) none) Set.univ (k ⟨⟩) Q))
      ⊢ wp Idealize.ShloMosaic.frame (wpE (defs₀ (F := F)) 𝒱₀ (c : Thread nD τ) none) Set.univ (p >>= k) Q := by
  rw [wp_bind]
  iintro ⟨#He, HA, Hk⟩
  iapply (wp_mono Idealize.ShloMosaic.frame (wpE (defs₀ (F := F)) 𝒱₀ (c : Thread nD τ) none) Set.univ
    (Q := fun _ : PUnit => iprop(D ∗ (D -∗ wp Idealize.ShloMosaic.frame (wpE (defs₀ (F := F)) 𝒱₀ (c : Thread nD τ) none) Set.univ (k ⟨⟩) Q)))
    (fun _ => by iintro ⟨HD, Hk⟩; iapply Hk; iexact HD))
  iapply (wp_frame_r Idealize.ShloMosaic.frame (wpE (defs₀ (F := F)) 𝒱₀ (c : Thread nD τ) none) Set.univ)
  isplitl [HA]
  · iapply (show iprop(env m K ∗ A) ⊢ _ from h)
    isplitr; · iexact He
    iexact HA
  · iexact Hk

theorem mid_tri (hB : B.Good) : Tri m K c (LM m c) (side B) (LN m c) := Tri.frame (side_tri hB)

/-- The positions that stay put while the sends end. -/
def rem : sProp 𝕄 :=
  iprop(((LF m c 0 8 ∗ LF m c 1 8) ∗ (BF m c 0 2 ∗ BF m c 1 2)) ∗ outP c (outC m c)
    ∗ (bigSep Finset.univ fun s : Fin 16 => atPos ER (cell c (.ex 1 s)) 1 ∅ 0) ∗ bigSep Finset.univ (RZ (F := F) c)
    ∗ xrl m c 16 ∗ yrl m c 16 ∗ atPos ER (cell c .bar) 1 ∅ 0)

theorem xsl_zero : iprop(emp) ⊢ xsl m c 0 := by
  unfold xsl; rw [upto_zero]; exact Entails.of_eq (pointsTo_empty (ℓ := (c : Thread nD τ).loc cc0_scratch2)).symm
theorem xrr_zero : iprop(emp) ⊢ xrr m c 0 := by
  unfold xrr; rw [upto_zero]; exact Entails.of_eq (pointsTo_empty (ℓ := (c : Thread nD τ).loc cc0_scratch3)).symm

theorem rem_intro : LN m c ⊢ iprop(FI m c 0 ∗ rem (m := m) (c := c)) := by
  unfold LN SQ FI rem
  iintro ⟨⟨HL, HB, HO, Hout, HX, HY, HR, H1, H2⟩, Hb, E0, E2⟩
  ihave HY := YZ_elim $$ HY
  icases HY with ⟨HY, C2⟩
  isplitl [HO HX E0 C2 E2]
  · isplitl [HO]
    · isplitl [HO]; · iexact HO
      isplitr
      · iapply xsl_zero; iempintro
      · iapply xrr_zero; iempintro
    · iapply Fam.start
      iapply FA_intro
      isplitl [HX E0]
      · isplitl [HX] <;> iassumption
      · isplitl [C2] <;> iassumption
  · isplitl [HL HB]
    · isplitl [HL] <;> iassumption
    isplitl [Hout]; · iexact Hout
    isplitl [HY]; · iexact HY
    isplitl [HR]; · iexact HR
    isplitl [H1]; · iexact H1
    isplitl [H2] <;> iassumption

theorem four {Φ : Fin 4 → sProp 𝕄} : iprop(Φ 0 ∗ Φ 1 ∗ Φ 2 ∗ Φ 3) ⊢ bigSep Finset.univ Φ := by
  rw [bigSep_eq_bigSepL_of_eq [0, 1, 2, 3] (by decide) (by decide)]
  show _ ⊢ iprop(Φ 0 ∗ Φ 1 ∗ Φ 2 ∗ Φ 3)
  iintro ⟨H0, H1, H2, H3⟩
  isplitl [H0]; · iexact H0
  isplitl [H1]; · iexact H1
  isplitl [H2]; · iexact H2
  iexact H3

theorem ex_fin : iprop((bigSep Finset.univ fun s : Fin 16 => atPos ER (cell c (.ex 0 s)) 1 ∅ 0) ∗ (bigSep Finset.univ fun s : Fin 16 => atPos ER (cell c (.ex 1 s)) 1 ∅ 0)
      ∗ (bigSep Finset.univ fun s : Fin 16 => atPos ER (cell c (.ex 2 s)) 1 ∅ 0) ∗ (bigSep Finset.univ fun s : Fin 16 => atPos ER (cell c (.ex 3 s)) 1 ∅ 0))
    ⊢ (bigSep Finset.univ fun ks : Fin 4 × Fin 16 => atPos ER (cell c (.ex ks.1 ks.2)) 1 ∅ 0 : sProp 𝕄) := by
  rw [bigSep_univ_prod]
  exact four (Φ := fun k : Fin 4 => bigSep Finset.univ fun s : Fin 16 => atPos ER (cell c (.ex k s)) 1 ∅ 0)

theorem slot_fin : iprop((atPos ER (cell c (.slot 0 0)) 8 ∅ 0 ∗ atPos ER (cell c (.slot 0 1)) 8 ∅ 0) ∗ atPos ER (cell c (.slot 1 0)) 2 ∅ 0 ∗ atPos ER (cell c (.slot 1 1)) 2 ∅ 0)
    ⊢ (bigSep Finset.univ fun ab : Fin 2 × Fin 2 => atPos ER (cell c (.slot ab.1 ab.2)) (lim ab.1) ∅ 0 : sProp 𝕄) := by
  rw [bigSep_univ_prod, bigSep_fin_two, bigSep_fin_two, bigSep_fin_two]
  exact Entails.of_eq rfl

theorem fin_intro : iprop(atPos ER (cell c .bar) 1 ∅ 0 ∗ (bigSep Finset.univ fun ks : Fin 4 × Fin 16 => atPos ER (cell c (.ex ks.1 ks.2)) 1 ∅ 0)
      ∗ (bigSep Finset.univ fun ab : Fin 2 × Fin 2 => atPos ER (cell c (.slot ab.1 ab.2)) (lim ab.1) ∅ 0)) ⊢ (fin (F := F) c : sProp 𝕄) := by
  unfold fin
  rw [bigSep_univ_sum, bigSep_univ_sum, bigSep_univ_of_subsingleton ()]
  exact Entails.of_eq rfl

theorem rem_elim : iprop(FI m c 16 ∗ rem (m := m) (c := c)) ⊢ LQ m c := by
  unfold FI rem LQ LF BF scr
  iintro ⟨⟨⟨HO, Hxs, Hxr⟩, HF⟩, ⟨⟨⟨⟨%f0, L0⟩, X0, A0, -⟩, ⟨⟨%f1, L1⟩, X1, A1, -⟩⟩, ⟨⟨⟨%f2, L2⟩, X2, A2, -⟩, ⟨⟨%f3, L3⟩, X3, A3, -⟩⟩⟩, Hout, HY, HR, Hxl, Hyr, Hb⟩
  ihave HF := Fam.done $$ HF
  ihave HF := FZ_elim $$ HF
  icases HF with ⟨F0, F2⟩
  isplitl [A0 A1 A2 A3 HY HR Hb F0 F2]
  · iapply fin_intro
    isplitl [Hb]; · iexact Hb
    isplitl [HY HR F0 F2]
    · iapply ex_fin
      isplitl [F0]; · iexact F0
      isplitl [HY]; · iexact HY
      isplitl [F2]; · iexact F2
      iexact HR
    · iapply slot_fin
      isplitl [A0 A1]
      · isplitl [A0] <;> iassumption
      · isplitl [A2] <;> iassumption
  isplitl [HO]; · rw [← OO_end c]; iexact HO
  isplitl [X0 X1 X2 X3]
  · iapply (x_join c (X m c))
    isplitl [X0 X1]
    · isplitl [X0] <;> iassumption
    · isplitl [X2] <;> iassumption
  isplitl [Hout]; · iexact Hout
  isplitl [L0 L1]; · iapply (ld_join c f0 f1); isplitl [L0] <;> iassumption
  isplitl [L2 L3]; · iapply (big_join c f2 f3); isplitl [L2] <;> iassumption
  unfold xsl xrl xrr yrl
  rw [upto_16]
  isplitl [Hxs]; · iexists _; iexact Hxs
  isplitl [Hxl Hxr]
  · iexists (xrC m c)
    iapply (pointsTo_share (PosShare.mem_left_op_right fullShare)).2
    isplitl [Hxl] <;> iassumption
  · iexists _; iexact Hyr

theorem fin2_tri : Tri m K c (LN m c) (iter finish 2 0 (by decide)) iprop(FI m c 2 ∗ rem (m := m) (c := c)) :=
  ((Tri.iter (I := fun n => FI m c n) 2 0 (by decide) (fun s _ _ => finish_tri s)).frame).pre rem_intro
theorem fin14_tri : Tri m K c iprop(FI m c 2 ∗ rem (m := m) (c := c)) (iter finish 14 2 (by decide)) (LQ m c) :=
  ((Tri.iter (I := fun n => FI m c n) 14 2 (by decide) (fun s _ _ => finish_tri s)).frame).post rem_elim

theorem words_fst (d : Dev nD) : (words d).1 = d := rfl

/-- The whole kernel. -/
theorem line_tri : Tri m K c (LP m c) line (LQ m c) := by
  unfold Tri line
  rw [wp_bind]
  refine chain ?_ (barrier_wp (m := m) (K := K) (c := c) _ _)
  iintro ⟨#He, HP⟩
  isplitr; · iexact He
  isplitl [HP]; · iexact HP
  iintro HM
  by_cases h : k0_cond1 c = 1#1
  · have hn : ¬ k0_cond2 c = 1#1 := fun h2 => absurd ((cond2_iff c).mp h2) (by have := (cond1_iff c).mp h; omega)
    rw [dif_pos h]
    iapply ((mid_tri (m := m) (K := K) (sideA_good c h)).bind _ _)
    isplitr; · iexact He
    isplitl [HM]; · iexact HM
    iintro HN
    rw [wp_ret]
    imodintro
    rw [words_fst, dif_neg hn]
    iapply (show iprop(env m K ∗ LN m c) ⊢ _ from fin2_tri.seq fin14_tri)
    isplitr; · iexact He
    iexact HN
  · have h2 : k0_cond2 c = 1#1 := (cond2_iff c).mpr (by have := mt (cond1_iff c).mpr h; omega)
    rw [dif_neg h, wp_ret]
    imodintro
    rw [words_fst, dif_pos h2]
    iapply (show iprop(env m K ∗ LM m c) ⊢ _ from ((mid_tri (m := m) (K := K) (sideB_good c h2)).seq fin2_tri).seq fin14_tri)
    isplitr; · iexact He
    iexact HM

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every semaphore closed: its count is zero. -/
theorem close_all {Es : Set ℕ} (hE : Es = Set.univ) :
    iprop(env m K ∗ fin c) ⊢ |={Es}=> (bigSep Finset.univ fun ρ : Role => semVal (nD := nD) (τ := τ) (sig := sig) (Ix := Unit) (Val := Elt F) (Name := ℕ) (U := UU) (Lvl := ℕ) (cell c ρ) 0) := by
  subst hE
  refine BI.Entails.trans ?_ (bigSep_fupd _ _)
  unfold fin
  refine bigSep_with_persistent (R := env m K) fun ρ _ => ?_
  iintro ⟨#He, HA⟩
  iapply (Rounds.cell_close ER (Rd m) (g := cell c ρ) (κ := K (c, ρ)) (Set.mem_univ _) (fun h => h) (R := last ρ) (duties_last m c ρ))
  isplitr; · iapply (inv_of m K c ρ); iexact He
  iexact HA

end Cert.KernelIdeal.Line

end
-- ==== Proof.Start.lean ====
/-
# The start

The rounds of every semaphore of every device are set up before the kernels run: the tokens of the duties are minted
with the semaphore they are paid to and dealt to the device that pays them, and each device gets the credit for what its
neighbours will send it.
-/
module

public import proofs.«01_k».proof.Proof.Lines
public import proofs.«01_k».proof.Proof.Gen.KernelIdeal.Launch
public import proofs.«01_k».proof.Proof.Gen.KernelIdeal.Points

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The cells and the tokens -/

abbrev cellAt (cr : Dev nD × Role) : GSem nD τ sig := cell cr.1 cr.2
theorem cellAt_inj : Function.Injective cellAt := fun _ _ h => Prod.ext (cell_inj h).1 (cell_inj h).2

def allCells : Finset (GSem nD τ sig) := Finset.univ.map ⟨cellAt, cellAt_inj⟩

/-- One token per duty of a device's own semaphores; eight rounds are minted for every slot. -/
abbrev Tok : Type := Bool ⊕ ((Fin 4 × Fin 16) ⊕ ((Fin 2 × Fin 2) × Fin 8))
abbrev tokR : Tok → Role × ℕ × Bool := fun
  | .inl b => (.bar, 0, b)
  | .inr (.inl (k, s)) => (.ex k s, 0, false)
  | .inr (.inr ((a, b), r)) => (.slot a b, r.val, false)
theorem tokR_inj : Function.Injective tokR := by
  rintro (b | ⟨k, s⟩ | ⟨⟨a, b⟩, r⟩) (b' | ⟨k', s'⟩ | ⟨⟨a', b'⟩, r'⟩) h
  · cases h; rfl
  · cases h
  · cases h
  · cases h
  · cases h; rfl
  · cases h
  · cases h
  · cases h
  · have h1 : Role.slot a b = Role.slot a' b' := congrArg Prod.fst h
    have h2 : r.val = r'.val := congrArg (fun x => x.2.1) h
    cases h1
    rw [Fin.ext h2]
abbrev tokAt (ct : Dev nD × Tok) : GSem nD τ sig × ℕ × Bool := (cell ct.1 (tokR ct.2).1, (tokR ct.2).2.1, (tokR ct.2).2.2)
theorem tokAt_inj : Function.Injective tokAt := by
  intro x y h
  have h1 := cell_inj (congrArg Prod.fst h)
  have h2 : (tokR x.2).2 = (tokR y.2).2 := congrArg (fun z : GSem nD τ sig × ℕ × Bool => z.2) h
  exact Prod.ext h1.1 (tokR_inj (Prod.ext h1.2 h2))
def allToks : Finset (GSem nD τ sig × ℕ × Bool) := Finset.univ.map ⟨tokAt, tokAt_inj⟩

def u₀ : UU :=
  (initOf (Pipeline.cells cfgs cellOf_inj) (Pipeline.launchToks cfgs cellOf_inj), initOf allCells allToks)

/-- The tokens of a device's own semaphores of one direction. -/
def tE (k : Fin 4) : sProp 𝕄 := bigSep Finset.univ fun s : Fin 16 => dutyTok ER (cell c (.ex k s)) 0 false
def tS : sProp 𝕄 := iprop((toks c 0 0 0 ∗ toks c 0 1 0) ∗ toks c 1 0 0 ∗ toks c 1 1 0)
/-- As minted, -/
def own0 : sProp 𝕄 := iprop((dutyTok ER (cell c .bar) 0 false ∗ dutyTok ER (cell c .bar) 0 true) ∗ (tE c 0 ∗ tE c 1 ∗ tE c 2 ∗ tE c 3) ∗ tS c)
/-- and as dealt. -/
def pays : sProp 𝕄 :=
  iprop((dutyTok ER (cell (xn c) .bar) 0 false ∗ dutyTok ER (cell (yn c) .bar) 0 true) ∗ (tE c 0 ∗ tE (xn c) 1 ∗ tE c 2 ∗ tE (yn c) 3) ∗ tS c)

theorem four_eq {Φ : Fin 4 → sProp 𝕄} : bigSep Finset.univ Φ = iprop(Φ 0 ∗ Φ 1 ∗ Φ 2 ∗ Φ 3) :=
  bigSep_univ_eq_bigSepL [0, 1, 2, 3] (by decide) (by decide) Φ
theorem two_eq {Φ : Fin 2 → sProp 𝕄} : bigSep Finset.univ Φ = iprop(Φ 0 ∗ Φ 1) :=
  bigSep_univ_eq_bigSepL [0, 1] (by decide) (by decide) Φ
theorem sum_eq {A B : Type} [Fintype A] [Fintype B] {Φ : A ⊕ B → sProp 𝕄} :
    bigSep Finset.univ Φ = iprop((bigSep Finset.univ fun a => Φ (.inl a)) ∗ bigSep Finset.univ fun b => Φ (.inr b)) := bigSep_univ_sum Φ
theorem bool_eq {Φ : Bool → sProp 𝕄} : bigSep Finset.univ Φ = iprop(Φ false ∗ Φ true) :=
  bigSep_univ_eq_bigSepL [false, true] (by decide) (by decide) Φ

theorem toks_of_eight (a b : Fin 2) :
    (bigSep Finset.univ fun r : Fin 8 => dutyTok ER (cell c (.slot a b)) r.val false : sProp 𝕄) ⊢ toks c a b 0 := by
  unfold toks
  have h : (bigSep Finset.univ fun r : Fin 8 => dutyTok ER (cell c (.slot a b)) r.val false : sProp 𝕄)
      = bigSep ((Finset.univ : Finset (Fin 8)).map Fin.valEmbedding) fun k : ℕ => dutyTok ER (cell c (.slot a b)) k false := by
    rw [bigSep_map]; rfl
  rw [h]
  refine bigSep_subset fun k hk => ?_
  rw [Finset.mem_Ico] at hk
  have h8 : lim a ≤ 8 := (by decide : ∀ a : Fin 2, lim a ≤ 8) a
  exact Finset.mem_map.mpr ⟨⟨k, by omega⟩, Finset.mem_univ _, rfl⟩

theorem own0_intro : (bigSep Finset.univ fun t : Tok => dutyTok ER (tokAt (c, t)).1 (tokAt (c, t)).2.1 (tokAt (c, t)).2.2 : sProp 𝕄) ⊢ own0 c := by
  rw [sum_eq, sum_eq, bigSep_univ_prod, bigSep_univ_prod, bool_eq, four_eq, bigSep_univ_prod, two_eq, two_eq, two_eq]
  unfold own0 tE tS
  iintro ⟨Hb, He, ⟨H1, H2⟩, H3, H4⟩
  isplitl [Hb]; · iexact Hb
  isplitl [He]; · iexact He
  isplitl [H1 H2]
  · isplitl [H1]
    · iapply (toks_of_eight c 0 0); iexact H1
    · iapply (toks_of_eight c 0 1); iexact H2
  · isplitl [H3]
    · iapply (toks_of_eight c 1 0); iexact H3
    · iapply (toks_of_eight c 1 1); iexact H4

/-- What the launch gives device `c`. -/
def G : sProp 𝕄 :=
  iprop((bigSep Finset.univ fun ρ : Role => roundState ER (Rd m) (cell c ρ) 0)
    ∗ (bigSep Finset.univ fun ρ : Role => iprop(atPos ER (cell c ρ) 0 ∅ 0 ∗ reached ER (cell c ρ) 0)) ∗ own0 c)

theorem mint : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ρ : Role => Φ (cell c ρ) := by
    unfold allCells; rw [bigSep_map, bigSep_univ_prod]; rfl
  have hT : bigSep allToks (fun x => (dutyTok ER x.1 x.2.1 x.2.2 : sProp 𝕄)) ⊢ bigSep Finset.univ fun c : Dev nD => own0 c := by
    unfold allToks; rw [bigSep_map, bigSep_univ_prod]
    exact bigSep_mono fun c _ => own0_intro c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The invariants -/

theorem ownSems0_eq : (Pipeline.ownSems0 (Ix := Unit) (Name := ℕ) (U := UU) (Lvl := ℕ) (Val := Elt F) (τ := τ) osem c : sProp 𝕄)
    = bigSep Finset.univ fun o : Own => semVal (cell c (.inr o)) 0 := rfl
theorem unscopedSems0_eq : (unscopedSems0 c : sProp 𝕄) = semVal (cell c .bar) 0 := by
  unfold unscopedSems0; rw [bigSep_eq_bigSepL_of_eq [SemLoc.reg barrier] (by decide +kernel) (by decide)]; rfl

theorem sems_eq : (bigSep Finset.univ fun ρ : Role => semVal (cell c ρ) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, sum_eq, bigSep_univ_of_subsingleton ()]

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ρ : Role => iprop(∃ κ : ℕ, cellInv ER (Rd m) κ (cell c ρ)))
          ∗ (bigSep Finset.univ fun ρ : Role => iprop(atPos ER (cell c ρ) 0 ∅ 0 ∗ reached ER (cell c ρ) 0)) ∗ own0 c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun ρ : Role => semVal (cell c ρ) 0) ∗ bigSep Finset.univ fun ρ : Role => roundState ER (Rd m) (cell c ρ) 0)
      ⊢ (|={Set.univ}=> bigSep Finset.univ fun ρ : Role => iprop(∃ κ : ℕ, cellInv ER (Rd m) κ (cell c ρ)) : sProp 𝕄) from by
        rw [← bigSep_sep']
        exact (bigSep_mono fun ρ _ => (Rounds.body_intro ER (Rd m) (cell c ρ)).trans inv_alloc).trans (bigSep_fupd _ _)) $$ [Hv Hst] with Hinv
  · isplitl [Hv] <;> iassumption
  imodintro
  isplitl [Hinv]; · iexact Hinv
  isplitl [Hat]; · iexact Hat
  iexact Htok

theorem deal : (bigSep Finset.univ fun c : Dev nD => (own0 c : sProp 𝕄)) ⊢ bigSep Finset.univ fun c : Dev nD => pays c := by
  unfold own0 pays
  simp only [bigSep_sep']
  rw [bigSep_univ_equiv xnE (fun c : Dev nD => (dutyTok ER (cell c .bar) 0 false : sProp 𝕄)),
    bigSep_univ_equiv ynE (fun c : Dev nD => (dutyTok ER (cell c .bar) 0 true : sProp 𝕄)),
    bigSep_univ_equiv xnE (fun c : Dev nD => (tE c 1 : sProp 𝕄)), bigSep_univ_equiv ynE (fun c : Dev nD => (tE c 3 : sProp 𝕄))]
  exact Entails.of_eq rfl

/-- What device `c` starts from. -/
def G' : sProp 𝕄 := iprop(∃ K, records m K ∗ (bigSep Finset.univ fun ρ : Role => atPos ER (cell c ρ) 0 ∅ 0) ∗ pays c)

theorem regroup :
    (bigSep Finset.univ fun c : Dev nD => iprop((bigSep Finset.univ fun ρ : Role => iprop(∃ κ : ℕ, cellInv ER (Rd m) κ (cell c ρ)))
          ∗ (bigSep Finset.univ fun ρ : Role => iprop(atPos ER (cell c ρ) 0 ∅ 0 ∗ reached ER (cell c ρ) 0)) ∗ own0 c) : sProp 𝕄)
      ⊢ bigSep Finset.univ (G' m) := by
  rw [bigSep_sep', bigSep_sep', ← bigSep_univ_prod (fun cr : Dev nD × Role => iprop(∃ κ : ℕ, cellInv ER (Rd m) κ (cell cr.1 cr.2))),
    bigSep_congr (s := Finset.univ) (fun (c : Dev nD) _ => bigSep_sep' Finset.univ (fun ρ : Role => (atPos ER (cell c ρ) 0 ∅ 0 : sProp 𝕄)) (fun ρ => reached ER (cell c ρ) 0)),
    bigSep_sep', ← bigSep_univ_prod (fun cr : Dev nD × Role => (reached ER (cell cr.1 cr.2) 0 : sProp 𝕄))]
  iintro ⟨HI, ⟨Hat, #HR⟩, Htok⟩
  ihave HK := (BI.bigSep_exists_pi Finset.univ (fun (cr : Dev nD × Role) (κ : ℕ) => (cellInv ER (Rd m) κ (cell cr.1 cr.2) : sProp 𝕄))) $$ HI
  icases HK with ⟨%K, #HI⟩
  ihave Htk := (deal (F := F)) $$ Htok
  iapply (bigSep_with_persistent (R := records m K) (Φ := fun c : Dev nD => iprop((bigSep Finset.univ fun ρ : Role => atPos ER (cell c ρ) 0 ∅ 0) ∗ pays c)) fun c _ => by
    unfold G'
    iintro ⟨#HR, HA⟩
    iexists K
    isplitr; · iexact HR
    iexact HA)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem sum_ex (e c : Dev nD) (k k' : Fin 4) (s : Fin 16) :
    (∑ t ∈ ge 0, (tallyAt (cell e (.ex k t)) () NX : CellTallies nD τ sig Unit)) (cell c (.ex k' s)) () = if c = e ∧ k' = k then NX else 0 := by
  rw [Finset.sum_apply, Finsupp.finset_sum_apply, ge_zero]
  by_cases h : c = e ∧ k' = k
  · obtain ⟨rfl, rfl⟩ := h
    rw [if_pos ⟨rfl, rfl⟩, Finset.sum_eq_single s]
    · rw [tallyAt_apply, if_pos ⟨rfl, rfl⟩]
    · intro t _ hne
      rw [tallyAt_apply, if_neg]
      rintro ⟨h', -⟩
      have := (cell_inj h').2
      cases this
      exact hne rfl
    · intro h'; exact absurd (Finset.mem_univ s) h'
  · rw [if_neg h]
    refine Finset.sum_eq_zero fun t _ => ?_
    rw [tallyAt_apply, if_neg]
    rintro ⟨h', -⟩
    have h1 := (cell_inj h').1
    have h2 := (cell_inj h').2
    cases h2
    exact h ⟨h1, rfl⟩
theorem sum_bar (e c : Dev nD) (k : Fin 4) :
    (∑ t ∈ ge 0, (tallyAt (cell e (.ex k t)) () NX : CellTallies nD τ sig Unit)) (cell c .bar) () = 0 := by
  rw [Finset.sum_apply, Finsupp.finset_sum_apply]
  refine Finset.sum_eq_zero fun t _ => ?_
  rw [tallyAt_apply, if_neg]
  rintro ⟨h', -⟩
  cases (cell_inj h').2
theorem one_bar (e c : Dev nD) : (tallyAt (cell e .bar) () 1 : CellTallies nD τ sig Unit) (cell c .bar) () = if c = e then 1 else 0 := by
  rw [tallyAt_apply]
  by_cases h : c = e
  · subst h; rw [if_pos ⟨rfl, rfl⟩, if_pos rfl]
  · rw [if_neg h, if_neg]
    rintro ⟨h', -⟩
    exact h (cell_inj h').1
theorem one_ex (e c : Dev nD) (k : Fin 4) (s : Fin 16) : (tallyAt (cell e .bar) () 1 : CellTallies nD τ sig Unit) (cell c (.ex k s)) () = 0 := by
  rw [tallyAt_apply, if_neg]
  rintro ⟨h', -⟩
  cases (cell_inj h').2

theorem eq_xn {c d : Dev nD} : c = xn d ↔ d = xn c := ⟨fun h => by rw [h, xn_xn], fun h => by rw [h, xn_xn]⟩
theorem eq_yn {c d : Dev nD} : c = yn d ↔ d = yn c := ⟨fun h => by rw [h, yn_yn], fun h => by rw [h, yn_yn]⟩

theorem owed_bar (d c : Dev nD) : O₀ d (cell c .bar) () = (if d = yn c then 1 else 0) + (if d = xn c then 1 else 0) := by
  unfold O₀ OO
  rw [Pi.add_apply, Finsupp.add_apply, Pi.add_apply, Finsupp.add_apply, Pi.add_apply, Finsupp.add_apply, sum_bar, sum_bar, one_bar, one_bar,
    if_congr eq_xn rfl rfl, if_congr eq_yn rfl rfl, Nat.add_zero, Nat.zero_add]
theorem owed_x (d c : Dev nD) (s : Fin 16) : O₀ d (cell c (.ex 1 s)) () = if d = xn c then NX else 0 := by
  unfold O₀ OO
  rw [Pi.add_apply, Finsupp.add_apply, Pi.add_apply, Finsupp.add_apply, Pi.add_apply, Finsupp.add_apply, sum_ex, sum_ex, one_ex, one_ex,
    if_neg (show ¬ (c = yn d ∧ (1 : Fin 4) = 3) from fun h => absurd h.2 (by decide)), Nat.add_zero]
  exact if_congr ⟨fun h => eq_xn.mp h.1, fun h => ⟨eq_xn.mpr h, rfl⟩⟩ rfl rfl
theorem owed_y (d c : Dev nD) (s : Fin 16) : O₀ d (cell c (.ex 3 s)) () = if d = yn c then NX else 0 := by
  unfold O₀ OO
  rw [Pi.add_apply, Finsupp.add_apply, Pi.add_apply, Finsupp.add_apply, Pi.add_apply, Finsupp.add_apply, sum_ex, sum_ex, one_ex, one_ex,
    if_neg (show ¬ (c = xn d ∧ (3 : Fin 4) = 1) from fun h => absurd h.2 (by decide)), Nat.add_zero, Nat.zero_add]
  exact if_congr ⟨fun h => eq_yn.mp h.1, fun h => ⟨eq_yn.mpr h, rfl⟩⟩ rfl rfl

theorem credit_bar :
    tallyOn (cell c .bar) (launchCredit (Pipeline.owing O₀) 0 (cell c .bar)) = (tallyAt (cell c .bar) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1, if_pos (Finset.mem_univ _), if_pos (Finset.mem_univ _)]
theorem credit_x (s : Fin 16) :
    tallyOn (cell c (.ex 1 s)) (launchCredit (Pipeline.owing O₀) 0 (cell c (.ex 1 s))) = (tallyAt (cell c (.ex 1 s)) () NX : CellTallies nD τ sig Unit) := by
  unfold tallyAt; refine congrArg _ (Finsupp.ext fun u => ?_); cases u
  rw [Pipeline.launchCredit_owing, Finsupp.single_eq_same, Finset.sum_congr rfl fun d _ => owed_x d c s, Finset.sum_ite_eq' Finset.univ (xn c) fun _ => NX,
    if_pos (Finset.mem_univ _)]
theorem credit_y (s : Fin 16) :
    tallyOn (cell c (.ex 3 s)) (launchCredit (Pipeline.owing O₀) 0 (cell c (.ex 3 s))) = (tallyAt (cell c (.ex 3 s)) () NX : CellTallies nD τ sig Unit) := by
  unfold tallyAt; refine congrArg _ (Finsupp.ext fun u => ?_); cases u
  rw [Pipeline.launchCredit_owing, Finsupp.single_eq_same, Finset.sum_congr rfl fun d _ => owed_y d c s, Finset.sum_ite_eq' Finset.univ (yn c) fun _ => NX,
    if_pos (Finset.mem_univ _)]

theorem creds : (Pipeline.launchCred O₀ c : sProp 𝕄) ⊢ iprop(cred (tallyAt (cell c .bar) () 2) ∗ crE c 1 ∗ crE c 3) := by
  unfold Pipeline.launchCred
  refine chain (bigSep_subset (t := Finset.univ.map ⟨csem, csem_inj⟩) (Finset.subset_univ _)) ?_
  rw [bigSep_map, sum_eq, sum_eq, bigSep_univ_of_subsingleton (), bigSep_univ_prod, four_eq]
  iintro ⟨Hb, ⟨-, H1, -, H3⟩, -⟩
  isplitl [Hb]; · rw [← credit_bar]; iexact Hb
  unfold crE
  isplitl [H1]
  · rw [show (fun s : Fin 16 => (cred (tallyAt (cell c (.ex 1 s)) () NX) : sProp 𝕄)) = fun s : Fin 16 => cred (tallyOn (cell c (.ex 1 s)) (launchCredit (Pipeline.owing O₀) 0 (cell c (.ex 1 s))))
      from funext fun s => by rw [credit_x]]
    iexact H1
  · rw [show (fun s : Fin 16 => (cred (tallyAt (cell c (.ex 3 s)) () NX) : sProp 𝕄)) = fun s : Fin 16 => cred (tallyOn (cell c (.ex 3 s)) (launchCredit (Pipeline.owing O₀) 0 (cell c (.ex 3 s))))
      from funext fun s => by rw [credit_y]]
    iexact H3

theorem pos_intro : iprop((bigSep Finset.univ fun ρ : Role => atPos ER (cell c ρ) 0 ∅ 0) ∗ pays c ∗ (cred (tallyAt (cell c .bar) () 2) ∗ crE c 1 ∗ crE c 3)) ⊢ (pos c : sProp 𝕄) := by
  unfold pos posB posE posS pays tE tS
  rw [show (bigSep Finset.univ (posX (F := F) c)) = iprop((bigSep Finset.univ fun s : Fin 16 => dutyTok ER (cell c (.ex 0 s)) 0 false) ∗ bigSep Finset.univ fun s : Fin 16 => dutyTok ER (cell (xn c) (.ex 1 s)) 0 false)
      from bigSep_sep' _ _ _,
    show (bigSep Finset.univ (posY (F := F) c)) = iprop((bigSep Finset.univ fun s : Fin 16 => dutyTok ER (cell c (.ex 2 s)) 0 false) ∗ bigSep Finset.univ fun s : Fin 16 => dutyTok ER (cell (yn c) (.ex 3 s)) 0 false)
      from bigSep_sep' _ _ _]
  rw [sum_eq, sum_eq, bigSep_univ_of_subsingleton (), bigSep_univ_prod, four_eq, bigSep_univ_prod, two_eq, two_eq, two_eq]
  iintro ⟨⟨Ab, AE, ⟨A1, A2⟩, A3, A4⟩, ⟨⟨T1, T2⟩, ⟨E0, E1, E2, E3⟩, ⟨S1, S2⟩, S3, S4⟩, Cb, C1, C3⟩
  isplitl [T1 T2 Cb Ab]
  · isplitl [T1]; · iexact T1
    isplitl [T2]; · iexact T2
    isplitl [Cb]; · iexact Cb
    iexact Ab
  isplitl [E0 E1 E2 E3]
  · isplitl [E0 E1]
    · isplitl [E0] <;> iassumption
    · isplitl [E2] <;> iassumption
  isplitl [AE]; · iexact AE
  isplitl [C1 C3]
  · isplitl [C1] <;> iassumption
  isplitl [A1 A2 S1 S2]
  · isplitl [A1 S1]
    · isplitl [A1]; · iexact A1
      iexact S1
    · isplitl [A2]; · iexact A2
      iexact S2
  · isplitl [A3 S3]
    · isplitl [A3]; · iexact A3
      iexact S3
    · isplitl [A4]; · iexact A4
      iexact S4

end Cert.KernelIdeal.Line

end
-- ==== Proof.Run.lean ====
/-
# The run

The kernel under the launch: every execution ends, every semaphore ends at zero, the operand is left as it was, and the
result array of each device holds the sum the line computes.
-/
module

public import proofs.«01_k».proof.Proof.Start
public import Idealize.ShloMosaic.Lib.Pipeline.Quiescent
public import Idealize.ShloMosaic.Lib.Quiescent

@[expose] public section

noncomputable section

namespace Cert.KernelIdeal.Line

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (g : Dev nD → PrngReg) (c : Dev nD)

/-- Before and after the kernel, beside what it owes and its result. -/
def start : sProp 𝕄 := iprop(∃ K, env m K ∗ pos c ∗ xP c fullShare (X m c))
def Φ₀ : sProp 𝕄 := iprop(start m c ∗ scr c)
def Φ₁ : sProp 𝕄 := iprop((bigSep Finset.univ fun ρ : Role => semVal (cell c ρ) 0) ∗ xP c fullShare (X m c) ∗ scr c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc ∗ (∃ d, stg c cc0_stg0_0 ((dats m 0 c).before (0 : Fin 1) t0_0 d)))
def bodyPost : sProp 𝕄 :=
  iprop(Φ₁ m c ∗ (dats m 0 c).owesAt () t0_0.succ ∗ stg c cc0_stg0_0 (outC m c))

theorem line_body : bodyPre m c ⊢ wp frame (wpE (defs₀ (F := F)) 𝒱₀ (c : Thread nD τ) none) Set.univ line (fun _ => bodyPost m c) := by
  unfold bodyPre Φ₀ start
  iintro ⟨⟨⟨%K, #He, Hp, Hx⟩, Hscr⟩, Ho, ⟨%d, %f, %hf, Hout⟩⟩
  unfold Dat.owesAt Pipeline.owesWithin
  icases Ho with ⟨%W, %hW, HO⟩
  rw [show (dats m 0 c).owed t0_0.castSucc = O₀ c from rfl]
  iapply (wp_fupd frame (wpE (defs₀ (F := F)) 𝒱₀ (c : Thread nD τ) none) Set.univ)
  iapply (wp_mono frame (wpE (defs₀ (F := F)) 𝒱₀ (c : Thread nD τ) none) Set.univ (Q := fun _ : PUnit => iprop(LQ m c ∗ env m K)) fun _ => by
    unfold LQ OW
    iintro ⟨⟨Hf, ⟨%W', HO⟩, Hx, Hout, Hscr⟩, #He⟩
    imod (close_all (m := m) (K := K) (c := c) (Es := Set.univ) rfl) $$ [Hf] with Hz
    · isplitr; · iexact He
      iexact Hf
    imodintro
    unfold bodyPost Φ₁ Dat.owesAt Pipeline.owesWithin
    rw [show (dats m 0 c).owed t0_0.succ = 0 from rfl]
    isplitl [Hz Hx Hscr]
    · isplitl [Hz]; · iexact Hz
      isplitl [Hx] <;> iassumption
    isplitl [HO]
    · iexists W'
      isplitr; · ipureintro; exact fun _ _ => Or.inl trivial
      iexact HO
    · iexists _; isplitr; · (ipureintro; rfl)
      iexact Hout)
  iapply (wp_frame_r frame (wpE (defs₀ (F := F)) 𝒱₀ (c : Thread nD τ) none) Set.univ)
  isplitl
  · iapply (show iprop(env m K ∗ LP m c) ⊢ _ from line_tri (m := m) (K := K) (c := c))
    isplitr; · iexact He
    unfold LP OW
    isplitl [Hp]; · iexact Hp
    isplitl [HO]; · iexists W; iexact HO
    isplitl [Hx]; · iexact Hx
    isplitl [Hout]; · iexists f; iexact Hout
    iexact Hscr
  · iexact He

set_option maxRecDepth 8000 in
theorem body_obligation : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 t0_0) (fun _ => bodyPost m c)
  rw [body_eq]
  exact line_body m c

/-! ## The launch -/

theorem ownSemFacts : Pipeline.OwnSemFacts cfg0.spec osem where
  isScoped := by decide +kernel
  inj := osem_inj
  disj := by decide +kernel

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (g c) ∗ G' m c)
      ⊢ |={Set.univ}=> iprop(start m c ∗ emp) := by
  rw [Pipeline.unscopedRestP_none, unscopedRest0_eq]
  unfold G' start env levs
  iintro ⟨Hx, #Hlev, Hcr, -, ⟨%K, #HR, Hat, Hp⟩⟩
  ihave Hc := (creds (F := F) c) $$ Hcr
  imodintro
  isplitl
  · iexists K
    isplitr
    · isplitr; · iexact HR
      iexact Hlev
    isplitl [Hat Hp Hc]
    · iapply (pos_intro (F := F) c)
      isplitl [Hat]; · iexact Hat
      isplitl [Hp] <;> iassumption
    iexact Hx
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What is read at the end: the operand and the barrier's count. -/
def Y : sProp 𝕄 := iprop(unscopedSems0 c ∗ xP c fullShare (X m c))

theorem phi1_exit :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scr
  rw [sems_eq]
  iintro ⟨⟨Hu, Ho⟩, Hx, Hr⟩
  isplitl [Hu Hx]
  · isplitl [Hu] <;> iassumption
  isplitl [Ho]; · iexact Ho
  iexact Hr

theorem stage_level : ∀ (w : Fin cfg0.W) (s : Fin (cfg0.win w).nbuf), lvS (.dma ((cfg0.win w).sem s)) = 0 := by
  intro w s
  unfold lvS
  rw [show roleOf (.dma ((cfg0.win w).sem s)) = none from ?_]
  unfold roleOf Function.partialInv
  rw [dif_neg]
  rintro ⟨u | o, h⟩
  · cases h
  · exact ownSemFacts.disj o w s h

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_O₀ (F := F) c _ (stage_level w s)
    · rw [show (dats m 0 c).owed ⟨_ + 1, ht⟩ = 0 from rfl, MayWait_zero]
      iintro -; iempintro

def finalA (w : Fin cfg0.W) : Buf (Elt F) ((cfg0.win w).arr.view.loc (c : Thread nD τ)) := (dats m 0 c).arrAt w cfg0.N

/-- What every run ends with. -/
def Ends (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg0) = m ((c : Thread nD τ).loc main_arg0)) ∧ r.2.sem = fun _ => 0

set_option maxRecDepth 8000 in
theorem run_main : θ_run defs (onTc (τ := τ) (main (F := F))) ⟨m, fun _ => 0, g⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := Y m) (Z := fun _ => iprop(emp))
    (hX := start_intro m g) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold Y
      iintro ⟨⟨Hu, Hx⟩, -, HSI⟩
      icombine HSI Hx gives %hx
      ihave %hs := (tcUnscoped_read c s') $$ [Hu HSI]
      · isplitl [Hu] <;> iassumption
      imodintro
      isplitr
      · ipureintro
        exact ⟨Buf.eq_of_forall_mem_univ hx, hs⟩
      iexact HSI)
    (hQ := fun _ h hs => ⟨fun c => ⟨(h c).1, (h c).2.2.1⟩, sem_eq_zero hs fun c => (h c).2.2.2⟩)

/-- The result array's one block is the whole array: it holds what the line left. -/
theorem finalA_out : finalA m c (0 : Fin 1) = outC m c := by
  have h : (win0_0.blk (0 : Fin 1)).view.read (Elt F) (finalA m c (0 : Fin 1)) = outC m c := by
    unfold finalA
    rw [show cfg0.N = ((0 : Fin 1) : Fin cfg0.N).val + 1 from rfl, (dats m 0 c).arrAt_succ (0 : Fin 1) (0 : Fin 1)]
    rw [show (cfg0.win (0 : Fin 1)).flush (0 : Fin 1) = true from flush0_0 _, if_pos rfl]
    exact View.read_write_univ _ _
  rw [← h]
  exact (Memref.read_access_unit_zero (Elt F) main_v1 (funext fun a => by fin_cases a <;> rfl) _ _).symm

/-- Every run ends with the operand as it was, every semaphore at zero and the sum in the result array. -/
theorem run : θ_run defs (onTc (τ := τ) (main (F := F))) ⟨m, fun _ => 0, g⟩ (fun r =>
    (∀ c : Dev nD, r.2.mem ((c.tc : Thread nD τ).loc main_v1) = outC m c
      ∧ r.2.mem ((c.tc : Thread nD τ).loc main_arg0) = m ((c.tc : Thread nD τ).loc main_arg0)) ∧ r.2.sem = fun _ => 0) :=
  (θ_run defs _ _).mono (fun r h => ⟨fun c => ⟨((h.1 c).1 (0 : Fin 1)).trans (finalA_out m c), (h.1 c).2⟩, h.2⟩) (run_main m g)

end Cert.KernelIdeal.Line

end
-- ==== Proof.KernelRun.lean ====
/-
# The printed kernel

The program printed for the bits is, word for word, the one printed for the ideal reading, so what is proved of the
one, at any reading of floats, holds of the other.
-/
module

public import proofs.«01_k».proof.Proof.Run
public import proofs.«01_k».proof.Proof.Gen.Kernel
public import proofs.«01_k».proof.Kernel
public import proofs.«01_k».proof.Defs

@[expose] public section

noncomputable section

namespace Cert.KernelIdeal.Line

open Idealize.ShloMosaic Idealize.ShloMosaic.TcCoe Idealize.SL.Sem

/-- The frame of the program, its floats read as `F`. -/
def framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0))
      ∧ r.2.sem = fun _ => 0)

theorem framed_all (F : FTy → Type) [FloatOps F] : framed F := fun m g _ =>
  (θ_run defs _ _).mono (fun r h => ⟨fun c => (h.1 c).2, h.2⟩) (run m g)

theorem same_program : framed Bits = Cert.quiescent_Kernel (hKernel := Cert.Kernel.Gen.facts) := by
  sl_kernel_rfl

/-- The frame of the printed kernel. -/
theorem quiescent_kernel : Cert.quiescent_Kernel (hKernel := Cert.Kernel.Gen.facts) :=
  same_program ▸ framed_all Bits

/-- The frame of the idealized kernel. -/
theorem quiescent_kernelIdeal : Cert.quiescent_KernelIdeal (hKernelIdeal := Cert.KernelIdeal.Gen.facts) :=
  framed_all Ideal

end Cert.KernelIdeal.Line

end
-- ==== Proof.Ref.lean ====
/-
# The reference and what it computes

The reference rounds the two operands, adds them from zero and rounds the sum. In exact arithmetic the roundings change
nothing, so row `r`, column `k` of its result is the sum of the two operands' elements there; the half of it that a
device holds is what the device computes, whichever of its neighbours the other operand came from.
-/
module

public import proofs.«01_k».proof.Proof.Run
public import proofs.«01_k».proof.Proof.Gen.ReferenceIdeal
public import proofs.«01_k».proof.Defs
public import Idealize.ShloMosaic.Lib.StableHlo.Run
public import Idealize.ShloMosaic.Lib.IdealHost
public import Idealize.ShloMosaic.Lib.Pointwise.Reduce

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument. -/
def refOut (x : FVec F S2x4096x2048 .f32) : FVec F S4096x2048 .bf16 :=
  truncf .bf16 (Host.reduceAdd (extf .f32 (truncf .bf16 x bitsLt_bf16_f32) bitsLt_bf16_f32)
    (constant S_ .f32 0x00000000#32) reducesTo_S2x4096x2048_S4096x2048_d0 h_S_) bitsLt_bf16_f32

/-- The operations of the program, in order. -/
abbrev ops : List (HloOp τ sig (Elt F)) :=
  [ unary main_arg0 main_v0 ((truncf .bf16 · bitsLt_bf16_f32) : (⟨S2x4096x2048, .f32⟩ : BufTy).Contents (Elt F) → (⟨S2x4096x2048, .bf16⟩ : BufTy).Contents (Elt F)),
    unary main_v0 main_v1 ((extf .f32 · bitsLt_bf16_f32) : (⟨S2x4096x2048, .bf16⟩ : BufTy).Contents (Elt F) → (⟨S2x4096x2048, .f32⟩ : BufTy).Contents (Elt F)),
    nullary main_cst (constant S_ .f32 0x00000000#32),
    binary main_v1 main_cst main_v2 ((fun x v => Host.reduceAdd x v reducesTo_S2x4096x2048_S4096x2048_d0 h_S_) : (⟨S2x4096x2048, .f32⟩ : BufTy).Contents (Elt F) → (⟨S_, .f32⟩ : BufTy).Contents (Elt F) → (⟨S4096x2048, .f32⟩ : BufTy).Contents (Elt F)),
    unary main_v2 main_v3 ((truncf .bf16 · bitsLt_bf16_f32) : (⟨S4096x2048, .f32⟩ : BufTy).Contents (Elt F) → (⟨S4096x2048, .bf16⟩ : BufTy).Contents (Elt F)) ]

theorem main_eq (c : Dev nD) : main (F := F) c = seq ops := rfl

theorem out_eq (V : Valuation τ sig (Elt F)) : after ops V (main_v3 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., binary_bufs_sub .., unary_bufs_sub ..⟩

/-- From any memory with zero counters the reference ends with `refOut` of its argument, the argument unchanged. -/
theorem run_main (m : (ℓ : Loc nD τ sig) → Buf (Elt F) ℓ) (g : Dev nD → PrngReg) :
    θ_run defs (onTc (τ := τ) (main (F := F))) ⟨m, fun _ => 0, g⟩ fun r =>
      ∀ c : Dev nD, r.2.mem ((c.tc : Thread nD τ).loc main_v3) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m g)

/-- The frame of the reference. -/
theorem quiescent : Cert.quiescent_ReferenceIdeal (hReferenceIdeal := Cert.ReferenceIdeal.Gen.facts) := by
  intro m g _
  exact (θ_run Cert.ReferenceIdeal.defs _ _).mono (fun r h => ⟨fun c => (h c).2,
      Idealize.ShloMosaic.sem_eq_zero_of_no_sems (by decide) r.2⟩) (run_main (F := Ideal) m g)

/-- In exact arithmetic the result at row `r`, column `k` is the sum of the two elements there. -/
theorem refOut_ideal (x : FVec Ideal S2x4096x2048 .f32) (j : S4096x2048.Idx) :
    refOut x j = ((x (ix3 0 (j 0) (j 1)) : EReal) + (x (ix3 1 (j 0) (j 1)) : EReal) : EReal) := by
  have h := Ideal.hostReduceAdd_r3_a0 reducesTo_S2x4096x2048_S4096x2048_d0 x (Ideal.ofBits .f32 0x00000000#32) j
  refine (show refOut x j = _ from h).trans ?_
  rw [Ideal.ofBits_zero_f32, zero_add, Fin.sum_univ_two]
  rfl

end Cert.Proof.Ref

namespace Cert.KernelIdeal.Line

open Cert.KernelIdeal Cert.KernelIdeal.Gen
open Idealize.ShloMosaic Idealize.ShloMosaic.TcCoe Idealize.SL.Sem

/-- Which of the two operands a device has, and which half of the columns it computes. -/
def half (c : Dev nD) : Fin 2 := ⟨c.val / 8, by have := dev_lt c; omega⟩

theorem half_other (c : Dev nD) (r : ℕ) : (half (other c r)).val = 1 - (half c).val := by
  unfold other
  split
  · clear * -; revert c; decide +kernel
  · clear * -; revert c; decide +kernel

theorem meshBlock_arg : ∀ c : Dev nD,
    (Layout.meshBlock [2, 2, 4] ![[0], [], []] c (h := by decide) 0).val = (half c).val := by decide +kernel
theorem meshBlock_out : ∀ c : Dev nD,
    (Layout.meshBlock [2, 2, 4] ![[], [0]] c (h := by decide) 1).val = (half c).val := by decide +kernel
theorem mine_half : ∀ c : Dev nD, mine c = (half c).val * 1024 := by decide +kernel

/-- Where the operand of a device is the block of the whole array which the layout gives it, row `r`, column `k` of it
is row `r`, column `k` of that one of the two operands. -/
theorem X_at (m : (ℓ : Loc nD τ sig) → Buf (Elt Ideal) ℓ) (x : Cert.ReferenceIdeal.S2x4096x2048.Idx → Elt Ideal .f32) (c : Dev nD)
    (hx : m ((c.tc : Thread nD τ).loc main_arg0)
      = Layout.blockN ⟨3, ![1, 4096, 2048]⟩ ⟨3, ![2, 4096, 2048]⟩ (Layout.meshBlock [2, 2, 4] ![[0], [], []] c) x)
    (r : Fin 4096) (k : Fin 2048) : X m c (at3 r.val k.val) = x (ix3 (half c) r k) := by
  unfold X
  refine (congrFun hx _).trans (congrArg x ?_)
  funext a
  apply Fin.ext
  rw [Layout.TilesN.idx_val]
  match a with
  | ⟨0, _⟩ =>
    show (Layout.meshBlock [2, 2, 4] ![[0], [], []] c (h := by decide) 0).val * 1 + 0 = (half c).val
    rw [meshBlock_arg]; omega
  | ⟨1, _⟩ => show 0 * 4096 + r.val % 4096 = r.val; rw [Nat.mod_eq_of_lt r.isLt]; omega
  | ⟨2, _⟩ => show 0 * 2048 + k.val % 2048 = k.val; rw [Nat.mod_eq_of_lt k.isLt]; omega

/-- What a device computes is its half of the reference's result. -/
theorem outC_eq (m : (ℓ : Loc nD τ sig) → Buf (Elt Ideal) ℓ) (x : Cert.ReferenceIdeal.S2x4096x2048.Idx → Elt Ideal .f32)
    (hx : ∀ c : Dev nD, m ((c.tc : Thread nD τ).loc main_arg0)
      = Layout.blockN ⟨3, ![1, 4096, 2048]⟩ ⟨3, ![2, 4096, 2048]⟩ (Layout.meshBlock [2, 2, 4] ![[0], [], []] c) x)
    (c : Dev nD) :
    outC m c = Layout.blockN ⟨2, ![4096, 1024]⟩ ⟨2, ![4096, 2048]⟩ (Layout.meshBlock [2, 2, 4] ![[], [0]] c)
      (Cert.Proof.Ref.refOut (F := Ideal) x) := by
  funext i
  have h0 : (i 0).val < 4096 := (i 0).isLt
  have h1 : (i 1).val < 1024 := (i 1).isLt
  have hs : (half c).val < 2 := (half c).isLt
  have hk : mine c + (i 1).val < 2048 := by rw [mine_half]; omega
  rw [Layout.blockN_apply, Cert.Proof.Ref.refOut_ideal]
  generalize hj : Layout.TilesN.idx _ _ i = j
  have j0 : j 0 = (⟨(i 0).val, h0⟩ : Fin 4096) := Fin.ext (by
    rw [← hj, Layout.TilesN.idx_val]; show 0 * 4096 + (i 0).val = (i 0).val; omega)
  have j1 : j 1 = (⟨mine c + (i 1).val, hk⟩ : Fin 2048) := Fin.ext (by
    rw [← hj, Layout.TilesN.idx_val]
    show (Layout.meshBlock [2, 2, 4] ![[], [0]] c (h := by decide) 1).val * 1024 + (i 1).val = mine c + (i 1).val
    rw [meshBlock_out, mine_half])
  rw [j0, j1]
  have hm := X_at m x c (hx c) ⟨(i 0).val, h0⟩ ⟨mine c + (i 1).val, hk⟩
  have ho := X_at m x (other c (i 0).val) (hx _) ⟨(i 0).val, h0⟩ ⟨mine c + (i 1).val, hk⟩
  have e : outC m c i = ((X m c (at3 (i 0).val (mine c + (i 1).val)) : EReal)
    + (X m (other c (i 0).val) (at3 (i 0).val (mine c + (i 1).val)) : EReal) : EReal) := rfl
  rw [e]
  refine (congrArg₂ (fun a b : EReal => a + b) hm ho).trans ?_
  have hso := half_other c (i 0).val
  rcases (show (half c).val = 0 ∨ (half c).val = 1 by omega) with hc | hc
  · rw [show half c = 0 from Fin.ext hc, show half (other c (i 0).val) = 1 from Fin.ext (by rw [hso, hc]; rfl)]
  · rw [show half c = 1 from Fin.ext hc, show half (other c (i 0).val) = 0 from Fin.ext (by rw [hso, hc]; rfl)]
    exact add_comm _ _

/-- The sum computed is the reference's. -/
theorem algebraic : Cert.algebraic_KernelIdeal_ReferenceIdeal (hKernelIdeal := Cert.KernelIdeal.Gen.facts)
    (hReferenceIdeal := Cert.ReferenceIdeal.Gen.facts) := by
  intro m g m' g' _ hx
  refine ⟨Cert.Proof.Ref.refOut (F := Ideal) (m' (((0 : Dev Cert.ReferenceIdeal.nD).tc : Thread _ Cert.ReferenceIdeal.τ).loc Cert.ReferenceIdeal.main_arg0)), ?_, ?_⟩
  · exact (θ_run defs _ _).mono (fun r h c => ⟨(h.1 c).1.trans (outC_eq m _ hx c), (h.1 c).2⟩) (run m g)
  · exact (θ_run Cert.ReferenceIdeal.defs _ _).mono (fun _ h => h 0) (Cert.Proof.Ref.run_main (F := Ideal) m' g')

end Cert.KernelIdeal.Line

end
-- ==== Proof.lean ====
/-
# The certificate

The frames of the kernel, of its idealization and of the reference (`KernelRun`, `Ref`), and the equality of what the
last two compute (`Ref`).
-/
module

public import proofs.«01_k».proof.Defs
public import proofs.«01_k».proof.Proof.KernelRun
public import proofs.«01_k».proof.Proof.Ref

@[expose] public section

noncomputable section

namespace Cert.Proof

theorem claim : Cert.Claim := ⟨Cert.Kernel.Gen.facts, Cert.KernelIdeal.Gen.facts, Cert.ReferenceIdeal.Gen.facts,
  Cert.KernelIdeal.Line.quiescent_kernel, Cert.KernelIdeal.Line.quiescent_kernelIdeal, Cert.Proof.Ref.quiescent,
  trivial, Cert.KernelIdeal.Line.algebraic⟩

end Cert.Proof

end
